-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_untied [hPre_finite_untied : Cert.Pre_finite_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_untied [hPre_finite_untied : Cert.Pre_finite_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_untied [hKernelIdeal : Cert.KernelIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_untied [hReferenceIdeal : Cert.ReferenceIdeal.Facts] [hPre_finite_untied : Cert.Pre_finite_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_untied [hKernelIdeal : Cert.KernelIdeal.Facts] [hReferenceIdeal : Cert.ReferenceIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_untied : Cert.Pre_finite_untied.Facts),
    quiescent_Kernel (hKernel := hKernel)
    ∧ quiescent_KernelIdeal (hKernelIdeal := hKernelIdeal)
    ∧ quiescent_KernelIdeal_pre_finite_untied (hKernelIdeal := hKernelIdeal) (hPre_finite_untied := hPre_finite_untied)
    ∧ quiescent_ReferenceIdeal (hReferenceIdeal := hReferenceIdeal)
    ∧ quiescent_ReferenceIdeal_pre_finite_untied (hReferenceIdeal := hReferenceIdeal) (hPre_finite_untied := hPre_finite_untied)
    ∧ preserves_Kernel_KernelIdeal
    ∧ algebraic_KernelIdeal_ReferenceIdeal_pre_finite_untied (hKernelIdeal := hKernelIdeal) (hReferenceIdeal := hReferenceIdeal) (hPre_finite_untied := hPre_finite_untied)
-- ==== Pre_finite_untied.lean ====
abbrev S8x128x64x64 : Shape := ⟨4, ![8, 128, 64, 64]⟩
abbrev S64x128 : Shape := ⟨2, ![64, 128]⟩
abbrev S64 : Shape := ⟨1, ![64]⟩
abbrev S64x512 : Shape := ⟨2, ![64, 512]⟩
abbrev S8x64x64x64 : Shape := ⟨4, ![8, 64, 64, 64]⟩
abbrev S1x1x1x64 : Shape := ⟨4, ![1, 1, 1, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S32768x512 : Shape := ⟨2, ![32768, 512]⟩
abbrev S512 : Shape := ⟨1, ![512]⟩
abbrev S1x512 : Shape := ⟨2, ![1, 512]⟩

class Facts : Prop where
  bcast_S64_S1x1x1x64_3 : S64.BroadcastsInDim S1x1x1x64 (![3] : Fin 1 → Fin S1x1x1x64.rank)
  bcast_S1x1x1x64_S8x64x64x64_0_1_2_3 : S1x1x1x64.BroadcastsInDim S8x64x64x64 (![0, 1, 2, 3] : Fin 4 → Fin S8x64x64x64.rank)
  shapeCasts_S8x64x64x64_S32768x64 : S8x64x64x64.ShapeCasts S32768x64
  reducesTo_S32768x64_S32768_d1 : S32768x64.ReducesTo [1] S32768
  h_S_ : 0 < S_.numel
  bcast_S32768_S32768x1_0 : S32768.BroadcastsInDim S32768x1 (![0] : Fin 1 → Fin S32768x1.rank)
  bcast_S_S32768x512 : S_.BroadcastsInDim S32768x512 (![] : Fin 0 → Fin S32768x512.rank)
  bcast_S32768x1_S32768x512_0_1 : S32768x1.BroadcastsInDim S32768x512 (![0, 1] : Fin 2 → Fin S32768x512.rank)
  reducesTo_S64x512_S512_d0 : S64x512.ReducesTo [0] S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S32768_d1 : S32768x512.ReducesTo [1] S32768
  natLt_1_32 : 1 < 32
  bcast_S_S8x128x64x64 : S_.BroadcastsInDim S8x128x64x64 (![] : Fin 0 → Fin S8x128x64x64.rank)
  bcast_S_S64x128 : S_.BroadcastsInDim S64x128 (![] : Fin 0 → Fin S64x128.rank)
  bcast_S_S64 : S_.BroadcastsInDim S64 (![] : Fin 0 → Fin S64.rank)
  bcast_S_S64x512 : S_.BroadcastsInDim S64x512 (![] : Fin 0 → Fin S64x512.rank)
  bcast_S_S32768 : S_.BroadcastsInDim S32768 (![] : Fin 0 → Fin S32768.rank)
  dot_S8x128x64x64_S64x128_S8x64x64x64_1_1_023_0_n_n_wf : DotDims.WF S8x128x64x64 S64x128 S8x64x64x64 [1] [1] [0, 2, 3] [0] [] []
  dot_S32768x64_S64x512_S32768x512_1_0_0_1_n_n_wf : DotDims.WF S32768x64 S64x512 S32768x512 [1] [0] [0] [1] [] []

variable [Facts]

def dot_S8x128x64x64_S64x128_S8x64x64x64_1_1_023_0_n_n : DotDims S8x128x64x64 S64x128 S8x64x64x64 where
  lhsContracting := [1]
  rhsContracting := [1]
  lhsNonContracting := [0, 2, 3]
  rhsNonContracting := [0]
  lhsBatch := []
  rhsBatch := []
  wf := dot_S8x128x64x64_S64x128_S8x64x64x64_1_1_023_0_n_n_wf
def dot_S32768x64_S64x512_S32768x512_1_0_0_1_n_n : DotDims S32768x64 S64x512 S32768x512 where
  lhsContracting := [1]
  rhsContracting := [0]
  lhsNonContracting := [0]
  rhsNonContracting := [1]
  lhsBatch := []
  rhsBatch := []
  wf := dot_S32768x64_S64x512_S32768x512_1_0_0_1_n_n_wf
def fn_part1 {F : FTy → Type} [FloatOps F] (main_arg0 : FVec F S8x128x64x64 .f32) (main_arg1 : FVec F S64x128 .f32) (main_arg2 : FVec F S64 .f32) (main_arg3 : FVec F S64x512 .f32) (main_v17 : FVec F S32768x512 .f32) (main_v19 : FVec F S32768x1 .f32) : IVec S8x128x64x64 1 × IVec S64x128 1 × IVec S64 1 × IVec S64x512 1 × IVec S32768 1 :=
  let main_v20 : FVec F S32768x512 .f32 := broadcastInDim S32768x512 ![0, 1] bcast_S32768x1_S32768x512_0_1 main_v19
  let main_v21 : IVec S32768x512 1 := cmpf .oeq main_v17 main_v20
  let main_v22 : IVec S32768x512 32 := (extui 32 · natLt_1_32) main_v21
  let main_c : IVec S_ 32 := constantI S_ 32 0#32
  let main_v23 : IVec S32768 32 := (fun x v => Host.reduce IntOp.addi x v reducesTo_S32768x512_S32768_d1 h_S_) main_v22 main_c
  let main_v24 : FVec F S8x128x64x64 .f32 := Host.absf main_arg0
  let main_cst_3 : FVec F S_ .f32 := constant S_ .f32 0x7F800000#32
  let main_v25 : FVec F S8x128x64x64 .f32 := broadcastInDim S8x128x64x64 ![] bcast_S_S8x128x64x64 main_cst_3
  let main_v26 : IVec S8x128x64x64 1 := cmpf .olt main_v24 main_v25
  let main_v27 : FVec F S64x128 .f32 := Host.absf main_arg1
  let main_cst_4 : FVec F S_ .f32 := constant S_ .f32 0x7F800000#32
  let main_v28 : FVec F S64x128 .f32 := broadcastInDim S64x128 ![] bcast_S_S64x128 main_cst_4
  let main_v29 : IVec S64x128 1 := cmpf .olt main_v27 main_v28
  let main_v30 : FVec F S64 .f32 := Host.absf main_arg2
  let main_cst_5 : FVec F S_ .f32 := constant S_ .f32 0x7F800000#32
  let main_v31 : FVec F S64 .f32 := broadcastInDim S64 ![] bcast_S_S64 main_cst_5
  let main_v32 : IVec S64 1 := cmpf .olt main_v30 main_v31
  let main_v33 : FVec F S64x512 .f32 := Host.absf main_arg3
  let main_cst_6 : FVec F S_ .f32 := constant S_ .f32 0x7F800000#32
  let main_v34 : FVec F S64x512 .f32 := broadcastInDim S64x512 ![] bcast_S_S64x512 main_cst_6
  let main_v35 : IVec S64x512 1 := cmpf .olt main_v33 main_v34
  let main_c_7 : IVec S_ 32 := constantI S_ 32 1#32
  let main_v36 : IVec S32768 32 := broadcastInDim S32768 ![] bcast_S_S32768 main_c_7
  let main_v37 : IVec S32768 1 := cmpi .eq main_v23 main_v36
  (main_v26, main_v29, main_v32, main_v35, main_v37)

def fn {F : FTy → Type} [FloatOps F] (main_arg0 : FVec F S8x128x64x64 .f32) (main_arg1 : FVec F S64x128 .f32) (main_arg2 : FVec F S64 .f32) (main_arg3 : FVec F S64x512 .f32) : IVec S8x128x64x64 1 × IVec S64x128 1 × IVec S64 1 × IVec S64x512 1 × IVec S32768 1 :=
  let main_v0 : FVec F S8x64x64x64 .f32 := (fun l r => Host.dotGeneral dot_S8x128x64x64_S64x128_S8x64x64x64_1_1_023_0_n_n none l r) main_arg0 main_arg1
  let main_v1 : FVec F S1x1x1x64 .f32 := broadcastInDim S1x1x1x64 ![3] bcast_S64_S1x1x1x64_3 main_arg2
  let main_v2 : FVec F S8x64x64x64 .f32 := broadcastInDim S8x64x64x64 ![0, 1, 2, 3] bcast_S1x1x1x64_S8x64x64x64_0_1_2_3 main_v1
  let main_v3 : FVec F S8x64x64x64 .f32 := addf main_v0 main_v2
  let main_v4 : FVec F S32768x64 .f32 := shapeCast S32768x64 main_v3 shapeCasts_S8x64x64x64_S32768x64
  let main_v5 : FVec F S32768x64 .f32 := mulf main_v4 main_v4
  let main_cst : FVec F S_ .f32 := constant S_ .f32 0x00000000#32
  let main_v6 : FVec F S32768 .f32 := (fun x v => Host.reduceAdd x v reducesTo_S32768x64_S32768_d1 h_S_) main_v5 main_cst
  let main_v7 : FVec F S32768x1 .f32 := broadcastInDim S32768x1 ![0] bcast_S32768_S32768x1_0 main_v6
  let main_v8 : FVec F S32768x512 .f32 := (fun l r => Host.dotGeneral dot_S32768x64_S64x512_S32768x512_1_0_0_1_n_n none l r) main_v4 main_arg3
  let main_cst_0 : FVec F S_ .f32 := constant S_ .f32 0x40000000#32
  let main_v9 : FVec F S32768x512 .f32 := broadcastInDim S32768x512 ![] bcast_S_S32768x512 main_cst_0
  let main_v10 : FVec F S32768x512 .f32 := mulf main_v9 main_v8
  let main_v11 : FVec F S32768x512 .f32 := broadcastInDim S32768x512 ![0, 1] bcast_S32768x1_S32768x512_0_1 main_v7
  let main_v12 : FVec F S32768x512 .f32 := subf main_v11 main_v10
  let main_v13 : FVec F S64x512 .f32 := mulf main_arg3 main_arg3
  let main_cst_1 : FVec F S_ .f32 := constant S_ .f32 0x00000000#32
  let main_v14 : FVec F S512 .f32 := (fun x v => Host.reduceAdd x v reducesTo_S64x512_S512_d0 h_S_) main_v13 main_cst_1
  let main_v15 : FVec F S1x512 .f32 := broadcastInDim S1x512 ![1] bcast_S512_S1x512_1 main_v14
  let main_v16 : FVec F S32768x512 .f32 := broadcastInDim S32768x512 ![0, 1] bcast_S1x512_S32768x512_0_1 main_v15
  let main_v17 : FVec F S32768x512 .f32 := addf main_v12 main_v16
  let main_cst_2 : FVec F S_ .f32 := constant S_ .f32 0x7F800000#32
  let main_v18 : FVec F S32768 .f32 := (fun x v => Host.reduce FloatOps.minimumf x v reducesTo_S32768x512_S32768_d1 h_S_) main_v17 main_cst_2
  let main_v19 : FVec F S32768x1 .f32 := broadcastInDim S32768x1 ![0] bcast_S32768_S32768x1_0 main_v18
  fn_part1 (F := F) main_arg0 main_arg1 main_arg2 main_arg3 main_v17 main_v19
-- ==== Kernel.lean ====
abbrev S8x128x64x64 : Shape := ⟨4, ![8, 128, 64, 64]⟩
abbrev S64x128 : Shape := ⟨2, ![64, 128]⟩
abbrev S64 : Shape := ⟨1, ![64]⟩
abbrev S64x512 : Shape := ⟨2, ![64, 512]⟩
abbrev S512 : Shape := ⟨1, ![512]⟩
abbrev S8x128x4096 : Shape := ⟨3, ![8, 128, 4096]⟩
abbrev S_ : Shape := ⟨0, ![]⟩
abbrev S512x64 : Shape := ⟨2, ![512, 64]⟩
abbrev S1x512 : Shape := ⟨2, ![1, 512]⟩
abbrev S6x512 : Shape := ⟨2, ![6, 512]⟩
abbrev S72x512 : Shape := ⟨2, ![72, 512]⟩
abbrev S64x1 : Shape := ⟨2, ![64, 1]⟩
abbrev S8x64x64x64 : Shape := ⟨4, ![8, 64, 64, 64]⟩
abbrev S8x1x4096 : Shape := ⟨3, ![8, 1, 4096]⟩
abbrev S1x1 : Shape := ⟨2, ![1, 1]⟩
abbrev S1x128x4096 : Shape := ⟨3, ![1, 128, 4096]⟩
abbrev S1x64x64x64 : Shape := ⟨4, ![1, 64, 64, 64]⟩
abbrev S1x1x4096 : Shape := ⟨3, ![1, 1, 4096]⟩
abbrev S128x4096 : Shape := ⟨2, ![128, 4096]⟩
abbrev S64x4096 : Shape := ⟨2, ![64, 4096]⟩
abbrev S4096 : Shape := ⟨1, ![4096]⟩
abbrev S1x4096 : Shape := ⟨2, ![1, 4096]⟩
abbrev S512x1 : Shape := ⟨2, ![512, 1]⟩
abbrev S512x4096 : Shape := ⟨2, ![512, 4096]⟩
abbrev S72x4096 : Shape := ⟨2, ![72, 4096]⟩
abbrev S64x64x64 : Shape := ⟨3, ![64, 64, 64]⟩
abbrev S8x4096 : Shape := ⟨2, ![8, 4096]⟩
abbrev S1 : Shape := ⟨1, ![1]⟩
abbrev S1x1x1 : Shape := ⟨3, ![1, 1, 1]⟩
abbrev S8x64x64 : Shape := ⟨3, ![8, 64, 64]⟩

abbrev nBuf : Space → Nat
  | .hbm => 24
  | .vmem => 11
  | .smem => 0
  | _ => 0

abbrev bufTy : (tb : Table) → Fin (tcTables nBuf tb) → BufTy
  | .hbm, ⟨0, _⟩ => ⟨S8x128x64x64, .f32⟩
  | .hbm, ⟨1, _⟩ => ⟨S64x128, .f32⟩
  | .hbm, ⟨2, _⟩ => ⟨S64, .f32⟩
  | .hbm, ⟨3, _⟩ => ⟨S64x512, .f32⟩
  | .hbm, ⟨4, _⟩ => ⟨S512, .f32⟩
  | .hbm, ⟨5, _⟩ => ⟨S512, .f32⟩
  | .hbm, ⟨6, _⟩ => ⟨S8x128x4096, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S512x64, .f32⟩
  | .hbm, ⟨11, _⟩ => ⟨S1x512, .f32⟩
  | .hbm, ⟨12, _⟩ => ⟨S1x512, .f32⟩
  | .hbm, ⟨13, _⟩ => ⟨S_, .f32⟩
  | .hbm, ⟨14, _⟩ => ⟨S6x512, .f32⟩
  | .hbm, ⟨15, _⟩ => ⟨S72x512, .f32⟩
  | .hbm, ⟨16, _⟩ => ⟨S64x1, .f32⟩
  | .hbm, ⟨17, _⟩ => ⟨S8x64x64x64, .f32⟩
  | .hbm, ⟨18, _⟩ => ⟨S8x1x4096, .i32⟩
  | .hbm, ⟨19, _⟩ => ⟨S1x1, .f32⟩
  | .hbm, ⟨20, _⟩ => ⟨S8x64x64, .i32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x128x4096, .f32⟩
  | .local _ .vmem, ⟨1, _⟩ => ⟨S1x128x4096, .f32⟩
  | .local _ .vmem, ⟨2, _⟩ => ⟨S64x128, .f32⟩
  | .local _ .vmem, ⟨3, _⟩ => ⟨S64x1, .f32⟩
  | .local _ .vmem, ⟨4, _⟩ => ⟨S512x64, .f32⟩
  | .local _ .vmem, ⟨5, _⟩ => ⟨S72x512, .f32⟩
  | .local _ .vmem, ⟨6, _⟩ => ⟨S1x64x64x64, .f32⟩
  | .local _ .vmem, ⟨7, _⟩ => ⟨S1x64x64x64, .f32⟩
  | .local _ .vmem, ⟨8, _⟩ => ⟨S1x1x4096, .i32⟩
  | .local _ .vmem, ⟨9, _⟩ => ⟨S1x1x4096, .i32⟩
  | .local _ .vmem, ⟨10, _⟩ => ⟨S1x1, .f32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S72x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S8x128x64x64 : Shape := ⟨4, ![8, 128, 64, 64]⟩
abbrev S64x128 : Shape := ⟨2, ![64, 128]⟩
abbrev S64 : Shape := ⟨1, ![64]⟩
abbrev S64x512 : Shape := ⟨2, ![64, 512]⟩
abbrev S8x64x64x64 : Shape := ⟨4, ![8, 64, 64, 64]⟩
abbrev S1x1x1x64 : Shape := ⟨4, ![1, 1, 1, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S32768x512 : Shape := ⟨2, ![32768, 512]⟩
abbrev S512 : Shape := ⟨1, ![512]⟩
abbrev S1x512 : Shape := ⟨2, ![1, 512]⟩
abbrev S8x64x64 : Shape := ⟨3, ![8, 64, 64]⟩
abbrev S512x64 : Shape := ⟨2, ![512, 64]⟩
abbrev S8x64x64x1 : Shape := ⟨4, ![8, 64, 64, 1]⟩
abbrev S1 : Shape := ⟨1, ![1]⟩
abbrev S1x1x1x1 : Shape := ⟨4, ![1, 1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S8x128x64x64, .f32⟩
  | .hbm, ⟨1, _⟩ => ⟨S64x128, .f32⟩
  | .hbm, ⟨2, _⟩ => ⟨S64, .f32⟩
  | .hbm, ⟨3, _⟩ => ⟨S64x512, .f32⟩
  | .hbm, ⟨4, _⟩ => ⟨S8x64x64x64, .f32⟩
  | .hbm, ⟨5, _⟩ => ⟨S1x1x1x64, .f32⟩
  | .hbm, ⟨6, _⟩ => ⟨S8x64x64x64, .f32⟩
  | .hbm, ⟨7, _⟩ => ⟨S8x64x64x64, .f32⟩
  | .hbm, ⟨8, _⟩ => ⟨S32768x64, .f32⟩
  | .hbm, ⟨9, _⟩ => ⟨S32768x64, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S32768x512, .f32⟩
  | .hbm, ⟨14, _⟩ => ⟨S_, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S64x512, .f32⟩
  | .hbm, ⟨20, _⟩ => ⟨S_, .f32⟩
  | .hbm, ⟨21, _⟩ => ⟨S512, .f32⟩
  | .hbm, ⟨22, _⟩ => ⟨S1x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .i32⟩
  | .hbm, ⟨27, _⟩ => ⟨S_, .f32⟩
  | .hbm, ⟨28, _⟩ => ⟨S_, .i32⟩
  | .hbm, ⟨29, _⟩ => ⟨S32768, .f32⟩
  | .hbm, ⟨30, _⟩ => ⟨S32768, .i32⟩
  | .hbm, ⟨31, _⟩ => ⟨S8x64x64, .i32⟩
  | .hbm, ⟨32, _⟩ => ⟨S512x64, .f32⟩
  | .hbm, ⟨33, _⟩ => ⟨S_, .i32⟩
  | .hbm, ⟨34, _⟩ => ⟨S8x64x64, .i32⟩
  | .hbm, ⟨35, _⟩ => ⟨S8x64x64, .i1⟩
  | .hbm, ⟨36, _⟩ => ⟨S_, .i32⟩
  | .hbm, ⟨37, _⟩ => ⟨S8x64x64, .i32⟩
  | .hbm, ⟨38, _⟩ => ⟨S8x64x64, .i32⟩
  | .hbm, ⟨39, _⟩ => ⟨S8x64x64, .i32⟩
  | .hbm, ⟨40, _⟩ => ⟨S8x64x64x1, .i32⟩
  | .hbm, ⟨41, _⟩ => ⟨S1, .i32⟩
  | .hbm, ⟨42, _⟩ => ⟨S_, .i32⟩
  | .hbm, ⟨43, _⟩ => ⟨S8x64x64x1, .i32⟩
  | .hbm, ⟨44, _⟩ => ⟨S8x64x64x1, .i1⟩
  | .hbm, ⟨45, _⟩ => ⟨S1x1x1x1, .i32⟩
  | .hbm, ⟨46, _⟩ => ⟨S8x64x64x1, .i32⟩
  | .hbm, ⟨47, _⟩ => ⟨S8x64x64x1, .i1⟩
  | .hbm, ⟨48, _⟩ => ⟨S8x64x64x1, .i1⟩
  | .hbm, ⟨49, _⟩ => ⟨S_, .i1⟩
  | .hbm, ⟨50, _⟩ => ⟨S8x64x64, .i1⟩
  | .hbm, ⟨51, _⟩ => ⟨S8x64x64x64, .f32⟩
  | .hbm, ⟨52, _⟩ => ⟨S8x64x64x64, .i1⟩
  | .hbm, ⟨53, _⟩ => ⟨S_, .f32⟩
  | .hbm, ⟨54, _⟩ => ⟨S8x64x64x64, .f32⟩
  | .hbm, ⟨55, _⟩ => ⟨S8x64x64x64, .f32⟩
  | .hbm, ⟨56, _⟩ => ⟨S8x64x64x64, .f32⟩
  | .hbm, ⟨57, _⟩ => ⟨S8x64x64x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8x64x64x64, .f32⟩
  | .hbm, ⟨63, _⟩ => ⟨S8x64x64x64, .f32⟩
  | .hbm, ⟨64, _⟩ => ⟨S8x64x64x64, .f32⟩
  | _, _ => ⟨S8x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_2 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩

abbrev nD : Nat := 1
abbrev τ : Topo := Topo.v7x

variable {F : FTy → Type} [FloatOps F]
-- ==== Proof.Model.lean ====
module

public import Mathlib.Data.EReal.Operations
public import Mathlib.Algebra.BigOperators.Fin
public import Mathlib.Tactic.Ring
public import Mathlib.Tactic.Linarith

@[expose] public section

/-! # The quantizer over the reals

What both programs compute, in real numbers: the linear map of a pixel's channels, the squared distance from its
value to each codeword, and the nearest codeword; with the two ways the programs write the distance, each equal
to the squared distance; and how real sums and least values look among the extended reals. -/

noncomputable section

namespace Model

/-- The linear map of a pixel's 128 channels, plus the bias. -/
def lin (w : Fin 64 → Fin 128 → ℝ) (b : Fin 64 → ℝ) (v : Fin 128 → ℝ) (d : Fin 64) : ℝ := ∑ c, w d c * v c + b d

/-- The squared distance from a vector to codeword `k`, the `k`-th column of `e`. -/
def sqDist (y : Fin 64 → ℝ) (e : Fin 64 → Fin 512 → ℝ) (k : Fin 512) : ℝ := ∑ d, (e d k - y d) * (e d k - y d)

/-- Codeword `n` is nearer than every other. -/
def Nearest (D : Fin 512 → ℝ) (n : Fin 512) : Prop := ∀ k, k ≠ n → D n < D k

/-- A nearest codeword's distance is at most every distance. -/
theorem Nearest.le {D : Fin 512 → ℝ} {n : Fin 512} (h : Nearest D n) (k : Fin 512) : D n ≤ D k := by
  by_cases hk : k = n
  · rw [hk]
  · exact (h k hk).le

/-- A distance equals the nearest codeword's only at that codeword. -/
theorem Nearest.eq_iff {D : Fin 512 → ℝ} {n : Fin 512} (h : Nearest D n) (k : Fin 512) : D k = D n ↔ k = n := by
  constructor
  · intro hk
    by_contra hne
    exact absurd hk (ne_of_gt (h k hne))
  · rintro rfl; rfl

/-- The three-term form of the squared distance. -/
theorem sqDist_three (y : Fin 64 → ℝ) (e : Fin 64 → Fin 512 → ℝ) (k : Fin 512) :
    ∑ d, y d * y d - 2 * ∑ d, y d * e d k + ∑ d, e d k * e d k = sqDist y e k := by
  unfold sqDist
  rw [Finset.mul_sum, ← Finset.sum_sub_distrib, ← Finset.sum_add_distrib]
  exact Finset.sum_congr rfl fun d _ => by ring

/-- The form over the codeword scaled by minus two. -/
theorem sqDist_scaled (y : Fin 64 → ℝ) (e : Fin 64 → Fin 512 → ℝ) (k : Fin 512) :
    ∑ d, y d * y d + ∑ d, (-2 * e d k) * y d + (∑ d, (-2 * e d k) * (-2 * e d k)) * (1 / 4) = sqDist y e k := by
  unfold sqDist
  rw [Finset.sum_mul, ← Finset.sum_add_distrib, ← Finset.sum_add_distrib]
  exact Finset.sum_congr rfl fun d _ => by ring

/-! ## The data -/

/-- The four arguments' real values: the image, the map's weights and bias, and the codebook. -/
structure Data where
  /-- The image: batch, channel, row, column. -/
  x : Fin 8 → Fin 128 → Fin 64 → Fin 64 → ℝ
  /-- The map's weights. -/
  w : Fin 64 → Fin 128 → ℝ
  /-- The map's bias. -/
  b : Fin 64 → ℝ
  /-- The codebook, a codeword in a column each. -/
  e : Fin 64 → Fin 512 → ℝ

/-- A pixel's vector after the map. -/
def Data.y (g : Data) (i : Fin 8) (h l : Fin 64) : Fin 64 → ℝ := lin g.w g.b fun c => g.x i c h l

/-- A pixel's squared distance to each codeword. -/
def Data.dist (g : Data) (i : Fin 8) (h l : Fin 64) : Fin 512 → ℝ := sqDist (g.y i h l) g.e

/-! ## Among the extended reals -/

/-- A sum of reals among the extended reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals. -/
theorem coe_sum_mul {ι : Type} [Fintype ι] (f g : ι → ℝ) :
    ∑ i, ((f i : ℝ) : EReal) * ((g i : ℝ) : EReal) = ((∑ i, f i * g i : ℝ) : EReal) := by
  rw [← coe_sum]
  exact Finset.sum_congr rfl fun i _ => (EReal.coe_mul _ _).symm

/-- The least of real values, from infinity, is the value at any index whose value is at most every value. -/
theorem fold_min {ι : Type} [Fintype ι] (D : ι → ℝ) (n : ι) (h : ∀ k, D n ≤ D k) :
    Finset.univ.fold min (⊤ : EReal) (fun k => ((D k : ℝ) : EReal)) = ((D n : ℝ) : EReal) := by
  refine le_antisymm ?_ ?_
  · exact (Finset.fold_min_le _).mpr (Or.inr ⟨n, Finset.mem_univ _, le_rfl⟩)
  · exact (Finset.le_fold_min _).mpr ⟨le_top, fun k _ => EReal.coe_le_coe_iff.mpr (h k)⟩

/-- Some real value is at most every value of a family over a nonempty finite type. -/
theorem exists_le (D : Fin 512 → ℝ) : ∃ n, ∀ k, D n ≤ D k := by
  obtain ⟨n, _, hn⟩ := Finset.exists_min_image Finset.univ D Finset.univ_nonempty
  exact ⟨n, fun k => hn k (Finset.mem_univ k)⟩

/-- The sum of extended reals times the indicator of one index is the value at that index. -/
theorem sum_indicator (a : Fin 512 → EReal) (n : Fin 512) (p : Fin 512 → EReal) (hp : ∀ k, p k = if k = n then 1 else 0) :
    ∑ k, a k * p k = a n := by
  rw [Finset.sum_eq_single n]
  · rw [hp, if_pos rfl, mul_one]
  · intro k _ hk
    rw [hp, if_neg hk, mul_zero]
  · intro h; exact absurd (Finset.mem_univ n) h

/-! ## A fold that keeps the best -/

/-- A fold whose step keeps the best element against any lesser one, and makes lesser ones of two lesser ones, ends at
    the best when the list holds it and otherwise holds lesser ones. -/
theorem foldl_best {α : Type} (f : α → α → α) (best : α) (less : α → Prop)
    (hll : ∀ a b, less a → less b → less (f a b)) (hlb : ∀ a, less a → f a best = best)
    (hbl : ∀ a, less a → f best a = best) (hbb : f best best = best) :
    ∀ (l : List α) (a : α), (∀ x ∈ l, less x ∨ x = best) → ((less a ∧ best ∈ l) ∨ a = best) → l.foldl f a = best
  | [], a, _, h => by
    rcases h with ⟨_, h⟩ | h
    · exact absurd h List.not_mem_nil
    · exact h
  | x :: l, a, hl, h => by
    rw [List.foldl_cons]
    have hl' : ∀ y ∈ l, less y ∨ y = best := fun y hy => hl y (List.mem_cons_of_mem _ hy)
    refine foldl_best f best less hll hlb hbl hbb l (f a x) hl' ?_
    rcases h with ⟨ha, hm⟩ | rfl
    · rcases hl x List.mem_cons_self with hx | rfl
      · by_cases hb : best ∈ l
        · exact Or.inl ⟨hll a x ha hx, hb⟩
        · rcases List.mem_cons.mp hm with rfl | hm
          · exact Or.inr (hlb a ha)
          · exact absurd hm hb
      · exact Or.inr (hlb a ha)
    · rcases hl x List.mem_cons_self with hx | rfl
      · exact Or.inr (hbl x hx)
      · exact Or.inr hbb

end Model

end
-- ==== Proof.Args.lean ====
module

public import proofs.«01_k».proof.Proof.Model
public import Idealize.ShloMosaic.PureOps
public import Idealize.ShloMosaic.Lib.Pointwise

/-! # The arguments as real data

When the four argument arrays hold given real data, what the three results are, and the constants the programs
spell in bits. -/

@[expose] public section

noncomputable section

namespace Args

open Idealize.ShloMosaic Idealize.ShloMosaic.Pointwise

/-- The four argument arrays hold the real data `g`. -/
structure Holds (x : FVec Ideal ⟨4, ![8, 128, 64, 64]⟩ .f32) (w : FVec Ideal ⟨2, ![64, 128]⟩ .f32)
    (b : FVec Ideal ⟨1, ![64]⟩ .f32) (e : FVec Ideal ⟨2, ![64, 512]⟩ .f32) (g : Model.Data) : Prop where
  x : ∀ i c h l, x (ix4 i c h l) = ((g.x i c h l : ℝ) : EReal)
  w : ∀ d c, w (ix2 d c) = ((g.w d c : ℝ) : EReal)
  b : ∀ d, b (ix1 d) = ((g.b d : ℝ) : EReal)
  e : ∀ d k, e (ix2 d k) = ((g.e d k : ℝ) : EReal)

/-- The number the sum of squared differences is divided by, as it is spelled. -/
abbrev count : EReal := Ideal.ofBits .f32 0x4A000000#32

/-- The first result: each pixel's nearest codeword, channels second. -/
def quantized (g : Model.Data) (n : Fin 8 → Fin 64 → Fin 64 → Fin 512) (i : Fin 8) (d h l : Fin 64) : EReal :=
  ((g.e d (n i h l) : ℝ) : EReal)

/-- The second result: the mean of the pixels' least squared distances. -/
def meanSq (g : Model.Data) (n : Fin 8 → Fin 64 → Fin 64 → Fin 512) : EReal :=
  Ideal.div (((∑ i : Fin 8, ∑ h : Fin 64, ∑ l : Fin 64, g.dist i h l (n i h l) : ℝ)) : EReal) count

/-- The third result: each pixel's nearest codeword's index. -/
def index (n : Fin 8 → Fin 64 → Fin 64 → Fin 512) (i : Fin 8) (h l : Fin 64) : BitVec 32 := BitVec.ofNat 32 (n i h l).val

/-- The word for two denotes 2. -/
theorem two : Ideal.ofBits .f32 0x40000000#32 = ((2 : ℝ) : EReal) := by
  simp [Ideal.ofBits, Ideal.ieee, -EReal.coe_mul]; norm_num

/-- The word for minus two denotes -2. -/
theorem minusTwo : Ideal.ofBits .f32 0xC0000000#32 = ((-2 : ℝ) : EReal) := by
  simp [Ideal.ofBits, Ideal.ieee, -EReal.coe_mul]; norm_num

/-- The word for a quarter denotes 1/4. -/
theorem quarter : Ideal.ofBits .f32 0x3E800000#32 = ((1 / 4 : ℝ) : EReal) := by
  simp [Ideal.ofBits, Ideal.ieee, -EReal.coe_mul]; norm_num

/-- The word for infinity denotes the greatest extended real. -/
theorem infinity : Ideal.ofBits .f32 0x7F800000#32 = ⊤ := by
  simp [Ideal.ofBits, Ideal.ieee]

end Args

end
-- ==== Proof.Block.lean ====
module

public import proofs.«01_k».proof.Proof.Gen.KernelIdeal.Skeleton
public import proofs.«01_k».proof.Proof.Args
public import Idealize.ShloMosaic.Lib.Pointwise

/-! # What one block computes

The body's stored values read at an index, first on any blocks, then on blocks that hold real data for which
every pixel of the block has one nearest codeword. -/

@[expose] public section

set_option maxRecDepth 16384

noncomputable section

namespace Block

open Cert.KernelIdeal Cert.KernelIdeal.Gen Idealize.ShloMosaic Idealize.ShloMosaic.Pointwise

section
variable (x : Vec Ideal S1x128x4096 .f32) (w : Vec Ideal S64x128 .f32) (b : Vec Ideal S64x1 .f32) (t : Vec Ideal S512x64 .f32)
  (a : Vec Ideal S72x512 .f32)

/-- The linear map's value at a pixel of the block, as the body forms it. -/
abbrev val (d : Fin 64) (p : Fin 4096) : EReal :=
  ∑ c : Fin 128, w (ix2 d c) * x (ix3 (0 : Fin 1) c p) + b (ix2 d (0 : Fin 1))

/-- A distance as the body forms it: the value's square sum, the product with the scaled codeword, and a quarter of the scaled codeword's square sum. -/
theorem pay5_at (k : Fin 512) (p : Fin 4096) :
    k0_pay5 x w b t (ix2 k p)
      = ∑ d : Fin 64, val x w b d p * val x w b d p + ∑ d : Fin 64, t (ix2 k d) * val x w b d p
        + (∑ d : Fin 64, t (ix2 k d) * t (ix2 k d)) * Ideal.ofBits .f32 0x3E800000#32 := by
  pointwise [k0_pay5, val]

/-- A pixel's least distance, as a fold of minima over the codewords. -/
theorem pay6_at (z : Fin 1) (p : Fin 4096) :
    k0_pay6 x w b t (ix2 z p)
      = Finset.univ.fold min (Ideal.ofBits .f32 0x7F800000#32) fun k : Fin 512 => k0_pay5 x w b t (ix2 k p) := by
  pointwise [k0_pay6]

/-- The product of the extended codebook with the mark of the least distance. -/
theorem pay7_at (r : Fin 72) (p : Fin 4096) :
    k0_pay7 x w b t a (ix2 r p)
      = ∑ k : Fin 512, a (ix2 r k) * FloatOps.sitofp (F := Ideal) .f32 (BitVec.setWidth 32 (BitVec.ofBool
        (decide ((k0_pay5 x w b t (ix2 k p) : EReal) = k0_pay6 x w b t (ix2 (0 : Fin 1) p))))) := by
  pointwise [k0_pay7]

/-- The first stored block is the first 64 rows of that product, a pixel at its row and column. -/
theorem pay1_at (z : Fin 1) (d r l : Fin 64) :
    k0_pay1 (k0_pay8 x w b t a) (ix4 z d r l)
      = k0_pay7 x w b t a (ix2 (⟨d.val, by omega⟩ : Fin 72) (⟨r.val * 64 + l.val, by omega⟩ : Fin 4096)) := by
  pointwise [k0_pay1, k0_pay8]

end

/-- The second stored block is twice row 64 plus row 65, as a word. -/
theorem pay2_at (v : FVec Ideal S72x4096 .f32) (z y : Fin 1) (p : Fin 4096) :
    k0_pay2 v (ix3 z y p)
      = Ideal.fptosi 32 (Ideal.ofBits .f32 0x40000000#32 * v (ix2 (64 : Fin 72) p) + v (ix2 (65 : Fin 72) p)) := by
  pointwise [k0_pay2]
  rfl

/-- The running sum starts at zero. -/
theorem pay3_at (z y : Fin 1) : k0_pay3 (F := Ideal) (ix2 z y) = 0 := by
  pointwise [k0_pay3]

/-- The running sum grows by the sum of a row of 4096 values. -/
theorem pay4_at (v : Vec Ideal S1x4096 .f32) (u : Vec Ideal S1x1 .f32) (z y : Fin 1) :
    k0_pay4 v u (ix2 z y) = u (ix2 z y) + ∑ p : Fin 4096, v (ix2 (0 : Fin 1) p) := by
  pointwise [k0_pay4]
  rw [Finset.univ_unique, Finset.sum_singleton]

/-! ## On real data -/

/-- The body's input blocks hold real data: a block of pixels `v`, the map's weights and bias, the codebook scaled by
    minus two, and the codebook with two rows below it holding each index's half and its remainder. -/
structure Holds (x : Vec Ideal S1x128x4096 .f32) (w : Vec Ideal S64x128 .f32) (b : Vec Ideal S64x1 .f32)
    (t : Vec Ideal S512x64 .f32) (a : Vec Ideal S72x512 .f32) (g : Model.Data) (v : Fin 4096 → Fin 128 → ℝ) : Prop where
  x : ∀ (c : Fin 128) (p : Fin 4096), x (ix3 (0 : Fin 1) c p) = ((v p c : ℝ) : EReal)
  w : ∀ d c, w (ix2 d c) = ((g.w d c : ℝ) : EReal)
  b : ∀ d : Fin 64, b (ix2 d (0 : Fin 1)) = ((g.b d : ℝ) : EReal)
  t : ∀ (k : Fin 512) (d : Fin 64), t (ix2 k d) = ((-2 * g.e d k : ℝ) : EReal)
  book : ∀ (d : Fin 64) (k : Fin 512), a (ix2 (⟨d.val, by omega⟩ : Fin 72) k) = ((g.e d k : ℝ) : EReal)
  half : ∀ k : Fin 512, a (ix2 (64 : Fin 72) k) = (((k.val / 2 : ℕ) : ℝ) : EReal)
  rem : ∀ k : Fin 512, a (ix2 (65 : Fin 72) k) = (((k.val % 2 : ℕ) : ℝ) : EReal)

variable {x : Vec Ideal S1x128x4096 .f32} {w : Vec Ideal S64x128 .f32} {b : Vec Ideal S64x1 .f32} {t : Vec Ideal S512x64 .f32}
  {a : Vec Ideal S72x512 .f32} {g : Model.Data} {v : Fin 4096 → Fin 128 → ℝ}

/-- A pixel's squared distances. -/
abbrev dist (g : Model.Data) (v : Fin 4096 → Fin 128 → ℝ) (p : Fin 4096) : Fin 512 → ℝ :=
  Model.sqDist (Model.lin g.w g.b (v p)) g.e

/-- The linear map's value. -/
theorem val_real (H : Holds x w b t a g v) (d : Fin 64) (p : Fin 4096) :
    val x w b d p = ((Model.lin g.w g.b (v p) d : ℝ) : EReal) := by
  unfold val
  simp only [H.x, H.w, H.b]
  rw [Model.coe_sum_mul, ← EReal.coe_add]
  rfl

/-- The block's distances are the squared distances. -/
theorem pay5_real (H : Holds x w b t a g v) (k : Fin 512) (p : Fin 4096) :
    k0_pay5 x w b t (ix2 k p) = ((dist g v p k : ℝ) : EReal) := by
  rw [pay5_at]
  simp only [val_real H, H.t, Args.quarter]
  rw [Model.coe_sum_mul, Model.coe_sum_mul, Model.coe_sum_mul, ← EReal.coe_mul, ← EReal.coe_add, ← EReal.coe_add,
    Model.sqDist_scaled]

/-- The block's least distance at a pixel is the nearest codeword's. -/
theorem pay6_real (H : Holds x w b t a g v) (z : Fin 1) (p : Fin 4096) (n : Fin 512) (hn : Model.Nearest (dist g v p) n) :
    k0_pay6 x w b t (ix2 z p) = ((dist g v p n : ℝ) : EReal) := by
  rw [pay6_at]
  simp only [pay5_real H, Args.infinity]
  exact Model.fold_min _ n hn.le

/-- A one-bit word as a number. -/
theorem bit_real (q : Prop) [Decidable q] :
    FloatOps.sitofp (F := Ideal) .f32 (BitVec.setWidth 32 (BitVec.ofBool (decide q))) = if q then (1 : EReal) else 0 := by
  by_cases h : q
  · rw [if_pos h, decide_eq_true h]
    show (((BitVec.setWidth 32 (BitVec.ofBool true)).toInt : ℝ) : EReal) = 1
    have : (BitVec.setWidth 32 (BitVec.ofBool true)).toInt = 1 := by decide
    rw [this]; simp
  · rw [if_neg h, decide_eq_false h]
    show (((BitVec.setWidth 32 (BitVec.ofBool false)).toInt : ℝ) : EReal) = 0
    have : (BitVec.setWidth 32 (BitVec.ofBool false)).toInt = 0 := by decide
    rw [this]; simp

/-- The selected column of the extended codebook is the nearest codeword's. -/
theorem pay7_real (H : Holds x w b t a g v) (r : Fin 72) (p : Fin 4096) (n : Fin 512) (hn : Model.Nearest (dist g v p) n) :
    k0_pay7 x w b t a (ix2 r p) = a (ix2 r n) := by
  rw [pay7_at]
  refine Model.sum_indicator (fun k => a (ix2 r k)) n _ fun k => ?_
  rw [bit_real, pay5_real H, pay6_real H 0 p n hn]
  refine if_congr ?_ rfl rfl
  rw [EReal.coe_eq_coe_iff]
  exact hn.eq_iff k

/-- The first stored block: each pixel's nearest codeword. -/
theorem out5 (H : Holds x w b t a g v) (z : Fin 1) (d r l : Fin 64) (n : Fin 512)
    (hn : Model.Nearest (dist g v (⟨r.val * 64 + l.val, by omega⟩ : Fin 4096)) n) :
    k0_pay1 (k0_pay8 x w b t a) (ix4 z d r l) = ((g.e d n : ℝ) : EReal) := by
  rw [pay1_at, pay7_real H _ _ n hn, H.book]

/-- An index is twice its half plus its remainder, and is read back as a word. -/
theorem decode (n : Fin 512) :
    Ideal.fptosi 32 (((2 : ℝ) : EReal) * (((n.val / 2 : ℕ) : ℝ) : EReal) + (((n.val % 2 : ℕ) : ℝ) : EReal)) = BitVec.ofNat 32 n.val := by
  have h : (2 : ℝ) * ((n.val / 2 : ℕ) : ℝ) + ((n.val % 2 : ℕ) : ℝ) = ((n.val : ℤ) : ℝ) := by
    have := Nat.div_add_mod n.val 2
    have h2 : ((2 * (n.val / 2) + n.val % 2 : ℕ) : ℝ) = (n.val : ℝ) := by rw [this]
    push_cast at h2 ⊢
    exact h2
  rw [← EReal.coe_mul, ← EReal.coe_add, h]
  have h0 : (0 : ℝ) ≤ ((n.val : ℤ) : ℝ) := by exact_mod_cast Int.natCast_nonneg n.val
  unfold Ideal.fptosi
  rw [Ideal.toIntClamped_coe, if_pos h0, Int.floor_intCast]
  have hn := n.isLt
  have hc : max (-((2 ^ (32 - 1) : ℕ) : ℤ)) (min (((2 ^ (32 - 1) : ℕ) : ℤ) - 1) (n.val : ℤ)) = (n.val : ℤ) := by
    norm_num
    omega
  rw [hc]
  exact BitVec.ofInt_natCast 32 n.val

/-- The second stored block: each pixel's nearest codeword's index. -/
theorem out6 (H : Holds x w b t a g v) (z y : Fin 1) (p : Fin 4096) (n : Fin 512) (hn : Model.Nearest (dist g v p) n) :
    k0_pay2 (k0_pay7 x w b t a) (ix3 z y p) = BitVec.ofNat 32 n.val := by
  rw [pay2_at, pay7_real H _ _ n hn, pay7_real H _ _ n hn, H.half, H.rem, Args.two, decode]

/-- The third stored block: the running sum plus the block's least distances. -/
theorem out7 (H : Holds x w b t a g v) (u : Vec Ideal S1x1 .f32) (z y : Fin 1) (n : Fin 4096 → Fin 512)
    (hn : ∀ p, Model.Nearest (dist g v p) (n p)) :
    k0_pay4 (k0_pay6 x w b t) u (ix2 z y) = u (ix2 z y) + ((∑ p, dist g v p (n p) : ℝ) : EReal) := by
  rw [pay4_at, ← Model.coe_sum]
  simp only [pay6_real H 0 _ _ (hn _)]

end Block

end
-- ==== Proof.Digits.lean ====
module

public import proofs.«01_k».proof.Proof.Gen.KernelIdeal.Skeleton
public import proofs.«01_k».proof.Proof.Args

/-! # The two rows of digits

The program's two tables of words denote, at code `k`, the numbers `k / 2` and `k % 2`. -/

@[expose] public section

set_option maxRecDepth 16384

noncomputable section

namespace Digits

open Cert.KernelIdeal Idealize.ShloMosaic

/-- A word is zero or a normal pattern of the whole number `n`, by its three fields: sign, exponent, fraction. -/
abbrev Whole (b : BitVec 32) (n : ℕ) : Prop :=
  (b.extractLsb' 31 1 == 1#1) = false ∧
    (((b.extractLsb' 23 8).toNat = 0 ∧ (b.extractLsb' 0 23).toNat = 0 ∧ n = 0) ∨
      (127 ≤ (b.extractLsb' 23 8).toNat ∧ (b.extractLsb' 23 8).toNat ≤ 150 ∧
        2 ^ 23 + (b.extractLsb' 0 23).toNat = n * 2 ^ (150 - (b.extractLsb' 23 8).toNat)))

/-- Such a word denotes that number. -/
theorem ofBits_whole {b : BitVec 32} {n : ℕ} (h : Whole b n) : Ideal.ofBits .f32 b = ((n : ℝ) : EReal) := by
  obtain ⟨hs, h⟩ := h
  show Ideal.ieee 8 23 b = _
  unfold Ideal.ieee
  rcases h with ⟨he, hf, rfl⟩ | ⟨h1, h2, hf⟩
  · simp [he, hf]
  · obtain ⟨k, hk⟩ := Nat.exists_eq_add_of_le h2
    have hk' : 150 - (b.extractLsb' 23 8).toNat = k := by omega
    rw [hk'] at hf
    dsimp only
    rw [if_neg (by omega), if_neg (by omega), hs, hf]
    have e : (((b.extractLsb' 23 8).toNat : ℕ) : ℤ) - (2 ^ (8 - 1) - 1) - (23 : ℕ) = -(k : ℤ) := by
      have hb : ((2 : ℤ) ^ (8 - 1) - 1) = 127 := by norm_num
      rw [hb]; omega
    rw [e, zpow_neg, zpow_natCast]
    refine congrArg Real.toEReal ?_
    have : ((2 : ℝ) ^ k) ≠ 0 := by positivity
    push_cast
    field_simp

/-- Word `k` of the first table is the pattern of `k / 2`. -/
theorem lit0_whole : ∀ i : Fin 512, Whole (lit0 i) (i.val / 2) := by decide +kernel

/-- Word `k` of the second table is the pattern of `k % 2`. -/
theorem lit1_whole : ∀ i : Fin 512, Whole (lit1 i) (i.val % 2) := by decide +kernel

/-- The first table's word `k` denotes `k / 2`. -/
theorem half (i : Fin 512) : Ideal.ofBits .f32 (lit0 i) = (((i.val / 2 : ℕ) : ℝ) : EReal) := ofBits_whole (lit0_whole i)

/-- The second table's word `k` denotes `k % 2`. -/
theorem rem (i : Fin 512) : Ideal.ofBits .f32 (lit1 i) = (((i.val % 2 : ℕ) : ℝ) : EReal) := ofBits_whole (lit1_whole i)

end Digits

end
-- ==== Proof.Prefix.lean ====
module

public import proofs.«01_k».proof.Proof.Gen.KernelIdeal.Frame
public import proofs.«01_k».proof.Proof.Block
public import proofs.«01_k».proof.Proof.Digits
public import Idealize.ShloMosaic.Lib.StableHlo.Run

/-! # The arrays the pipeline finds

What the host's operations before the pipeline leave in the arrays of its input windows, at an index. -/

@[expose] public section

set_option maxRecDepth 16384

noncomputable section

namespace Prefix

open Cert.KernelIdeal Cert.KernelIdeal.Gen Idealize.ShloMosaic Idealize.ShloMosaic.Pointwise Idealize.ShloMosaic.StableHlo

section
variable {F : FTy → Type} [FloatOps F]

/-- The image with its two spatial axes joined. -/
abbrev image (x : Vec F S8x128x64x64 .f32) : Vec F S8x128x4096 .f32 := shapeCast S8x128x4096 x shapeCasts_S8x128x64x64_S8x128x4096

/-- The shift as a column. -/
abbrev column (b : Vec F S64 .f32) : Vec F S64x1 .f32 := shapeCast S64x1 b shapeCasts_S64_S64x1

/-- The codewords times minus two, a codeword per row. -/
abbrev scaled (e : Vec F S64x512 .f32) : Vec F S512x64 .f32 :=
  transpose S512x64 [1, 0] (mulf (broadcastInDim S64x512 ![] bcast_S_S64x512 (constant S_ .f32 0xC0000000#32 : Vec F S_ .f32)) e) transposes_S64x512_S512x64_1_0

/-- The first row of digits. -/
abbrev digits0 : Vec F S1x512 .f32 :=
  broadcastInDim S1x512 ![1] bcast_S512_S1x512_1 (fun i => FloatOps.ofBits .f32 (lit0 (S512.rowMajor i)) : Vec F S512 .f32)

/-- The second row of digits. -/
abbrev digits1 : Vec F S1x512 .f32 :=
  broadcastInDim S1x512 ![1] bcast_S512_S1x512_1 (fun i => FloatOps.ofBits .f32 (lit1 (S512.rowMajor i)) : Vec F S512 .f32)

/-- The codewords, a codeword per column, above the two rows of digits and six rows of zeros. -/
abbrev book (e : Vec F S64x512 .f32) : Vec F S72x512 .f32 :=
  concatenate S72x512 0 [⟨S64x512, e⟩, ⟨S1x512, digits0⟩, ⟨S1x512, digits1⟩,
    ⟨S6x512, broadcastInDim S6x512 ![] bcast_S_S6x512 (constant S_ .f32 0x00000000#32 : Vec F S_ .f32)⟩] concatenates_S64x512_S1x512_S1x512_S6x512_S72x512_d0

variable (m : (l : Loc nD τ sig) → Buf (Elt F) l) (c : Dev nD)

set_option maxHeartbeats 4000000 in
/-- The pipeline finds the joined image. -/
theorem v0_eq : V m c main_v0 = image (m ((c.tc : Thread nD τ).loc main_arg0)) := by
  show after (List.flatten [hostOps0]) _ (Proc.devRef .tc main_v0) = _
  simp only [hostOps0, List.flatten_cons, List.flatten_nil, List.append_nil]
  after_results_simp <;> rfl

set_option maxHeartbeats 4000000 in
/-- It finds the scaled codewords. -/
theorem v3_eq : V m c main_v3 = scaled (m ((c.tc : Thread nD τ).loc main_arg3)) := by
  show after (List.flatten [hostOps0]) _ (Proc.devRef .tc main_v3) = _
  simp only [hostOps0, List.flatten_cons, List.flatten_nil, List.append_nil]
  after_results_simp <;> rfl

set_option maxHeartbeats 4000000 in
/-- It finds the column of shifts. -/
theorem v8_eq : V m c main_v8 = column (m ((c.tc : Thread nD τ).loc main_arg2)) := by
  show after (List.flatten [hostOps0]) _ (Proc.devRef .tc main_v8) = _
  simp only [hostOps0, List.flatten_cons, List.flatten_nil, List.append_nil]
  after_results_simp <;> rfl

set_option maxHeartbeats 4000000 in
/-- It finds the extended codebook. -/
theorem v7_eq : V m c main_v7 = book (m ((c.tc : Thread nD τ).loc main_arg3)) := by
  show after (List.flatten [hostOps0]) _ (Proc.devRef .tc main_v7) = _
  simp only [hostOps0, List.flatten_cons, List.flatten_nil, List.append_nil]
  after_results_simp <;> rfl

end

/-- The joined image at a row-major place. -/
theorem image_at (x : Vec Ideal S8x128x64x64 .f32) (i : Fin 8) (c : Fin 128) (p : Fin 4096) :
    image x (ix3 i c p) = x (ix4 i c (⟨p.val / 64, by omega⟩ : Fin 64) (⟨p.val % 64, by omega⟩ : Fin 64)) := by
  pointwise [image]

/-- The column's entry is the shift's. -/
theorem column_at (b : Vec Ideal S64 .f32) (d : Fin 64) (z : Fin 1) : column b (ix2 d z) = b (ix1 d) := by
  pointwise [column]

/-- A scaled codeword entry is minus two times the codebook entry. -/
theorem scaled_at (e : Vec Ideal S64x512 .f32) (k : Fin 512) (d : Fin 64) :
    scaled e (ix2 k d) = Ideal.ofBits .f32 0xC0000000#32 * e (ix2 d k) := by
  pointwise [scaled]

/-- The first 64 rows of the extended codebook are the codebook. -/
theorem book_code (e : Vec Ideal S64x512 .f32) (d : Fin 64) (k : Fin 512) :
    book e (ix2 (⟨d.val, by omega⟩ : Fin 72) k) = e (ix2 d k) := by
  pointwise [book]

/-- Row 64 is the first table. -/
theorem book_half (e : Vec Ideal S64x512 .f32) (k : Fin 512) :
    book e (ix2 (64 : Fin 72) k) = Ideal.ofBits .f32 (lit0 k) := by
  pointwise [book, digits0]
  exact congrArg (fun i => Ideal.ofBits .f32 (lit0 i)) (Fin.ext (Shape.rowMajor_val_one _))

/-- Row 65 is the second table. -/
theorem book_rem (e : Vec Ideal S64x512 .f32) (k : Fin 512) :
    book e (ix2 (65 : Fin 72) k) = Ideal.ofBits .f32 (lit1 k) := by
  pointwise [book, digits1]
  exact congrArg (fun i => Ideal.ofBits .f32 (lit1 i)) (Fin.ext (Shape.rowMajor_val_one _))

end Prefix

end
-- ==== Proof.Inputs.lean ====
module

public import proofs.«01_k».proof.Proof.Prefix

/-! # The blocks a grid point reads

At grid point `t` the first input block is image `t`; the other four are whole arrays. On arguments that hold real
data they hold what `Block.Holds` asks for. -/

@[expose] public section

set_option maxRecDepth 16384

noncomputable section

namespace Inputs

open Cert.KernelIdeal Cert.KernelIdeal.Gen Idealize.ShloMosaic Idealize.ShloMosaic.Pointwise Idealize.ShloMosaic.TcCoe Idealize.SL.Sem

/-- A grid point's image. -/
abbrev batch (t : Fin cfg0.N) : Fin 8 := ⟨t.val, lt_of_lt_of_eq t.isLt N_0⟩

/-- A pixel's row, of its row-major place. -/
abbrev row (p : Fin 4096) : Fin 64 := ⟨p.val / 64, by omega⟩
/-- A pixel's column, of its row-major place. -/
abbrev col (p : Fin 4096) : Fin 64 := ⟨p.val % 64, by omega⟩

/-- An image's pixels by row-major place. -/
abbrev pixels (g : Model.Data) (i : Fin 8) (p : Fin 4096) (c : Fin 128) : ℝ := g.x i c (row p) (col p)

section
variable {F : FTy → Type} [FloatOps F]
variable (m : (l : Loc nD τ sig) → Buf (Elt F) l) (c : Dev nD)

/-- Grid point `t` reads block `(t, 0, 0)` of the image array. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- Every grid point reads the one block of the weights. -/
theorem index1 : ∀ t : Fin cfg0.N, win0_1.index t 0 = 0 ∧ win0_1.index t 1 = 0 :=
  (by decide +kernel : ∀ t : Fin grid0.N, win0_1.index t 0 = 0 ∧ win0_1.index t 1 = 0)
/-- Every grid point reads the one block of the shifts. -/
theorem index2 : ∀ t : Fin cfg0.N, win0_2.index t 0 = 0 ∧ win0_2.index t 1 = 0 :=
  (by decide +kernel : ∀ t : Fin grid0.N, win0_2.index t 0 = 0 ∧ win0_2.index t 1 = 0)
/-- Every grid point reads the one block of the scaled codewords. -/
theorem index3 : ∀ t : Fin cfg0.N, win0_3.index t 0 = 0 ∧ win0_3.index t 1 = 0 :=
  (by decide +kernel : ∀ t : Fin grid0.N, win0_3.index t 0 = 0 ∧ win0_3.index t 1 = 0)
/-- Every grid point reads the one block of the extended codebook. -/
theorem index4 : ∀ t : Fin cfg0.N, win0_4.index t 0 = 0 ∧ win0_4.index t 1 = 0 :=
  (by decide +kernel : ∀ t : Fin grid0.N, win0_4.index t 0 = 0 ∧ win0_4.index t 1 = 0)

/-- The first block is one image of the array. -/
theorem block0 (t : Fin cfg0.N) (z : Fin 1) (k : Fin 128) (p : Fin 4096) :
    (iblk m c 0 t : Vec F S1x128x4096 .f32) (ix3 z k p) = (V m c main_v0 : Vec F S8x128x4096 .f32) (ix3 (batch t) k p) := by
  obtain ⟨e0, e1, e2⟩ := index0 t
  unfold iblk
  rw [View.read_apply]
  show V m c main_v0 _ = V m c main_v0 _
  congr 1
  funext a
  apply Fin.ext
  match a with
  | ⟨0, _⟩ => show win0_0.index t 0 * 1 + 1 * z.val = t.val; rw [e0]; omega
  | ⟨1, _⟩ => show win0_0.index t 1 * 128 + 1 * k.val = k.val; rw [e1]; omega
  | ⟨2, _⟩ => show win0_0.index t 2 * 4096 + 1 * p.val = p.val; rw [e2]; omega

/-- The second block is the weights. -/
theorem block1 (t : Fin cfg0.N) (d : Fin 64) (k : Fin 128) :
    (iblk m c 1 t : Vec F S64x128 .f32) (ix2 d k) = (V m c main_arg1 : Vec F S64x128 .f32) (ix2 d k) := by
  obtain ⟨e0, e1⟩ := index1 t
  unfold iblk
  rw [View.read_apply]
  show V m c main_arg1 _ = V m c main_arg1 _
  congr 1
  funext a
  apply Fin.ext
  match a with
  | ⟨0, _⟩ => show win0_1.index t 0 * 64 + 1 * d.val = d.val; rw [e0]; omega
  | ⟨1, _⟩ => show win0_1.index t 1 * 128 + 1 * k.val = k.val; rw [e1]; omega

/-- The third block is the column of shifts. -/
theorem block2 (t : Fin cfg0.N) (d : Fin 64) (z : Fin 1) :
    (iblk m c 2 t : Vec F S64x1 .f32) (ix2 d z) = (V m c main_v8 : Vec F S64x1 .f32) (ix2 d z) := by
  obtain ⟨e0, e1⟩ := index2 t
  unfold iblk
  rw [View.read_apply]
  show V m c main_v8 _ = V m c main_v8 _
  congr 1
  funext a
  apply Fin.ext
  match a with
  | ⟨0, _⟩ => show win0_2.index t 0 * 64 + 1 * d.val = d.val; rw [e0]; omega
  | ⟨1, _⟩ => show win0_2.index t 1 * 1 + 1 * z.val = z.val; rw [e1]; omega

/-- The fourth block is the scaled codewords. -/
theorem block3 (t : Fin cfg0.N) (k : Fin 512) (d : Fin 64) :
    (iblk m c 3 t : Vec F S512x64 .f32) (ix2 k d) = (V m c main_v3 : Vec F S512x64 .f32) (ix2 k d) := by
  obtain ⟨e0, e1⟩ := index3 t
  unfold iblk
  rw [View.read_apply]
  show V m c main_v3 _ = V m c main_v3 _
  congr 1
  funext a
  apply Fin.ext
  match a with
  | ⟨0, _⟩ => show win0_3.index t 0 * 512 + 1 * k.val = k.val; rw [e0]; omega
  | ⟨1, _⟩ => show win0_3.index t 1 * 64 + 1 * d.val = d.val; rw [e1]; omega

/-- The fifth block is the codewords with the rows of digits. -/
theorem block4 (t : Fin cfg0.N) (r : Fin 72) (k : Fin 512) :
    (iblk m c 4 t : Vec F S72x512 .f32) (ix2 r k) = (V m c main_v7 : Vec F S72x512 .f32) (ix2 r k) := by
  obtain ⟨e0, e1⟩ := index4 t
  unfold iblk
  rw [View.read_apply]
  show V m c main_v7 _ = V m c main_v7 _
  congr 1
  funext a
  apply Fin.ext
  match a with
  | ⟨0, _⟩ => show win0_4.index t 0 * 72 + 1 * r.val = r.val; rw [e0]; omega
  | ⟨1, _⟩ => show win0_4.index t 1 * 512 + 1 * k.val = k.val; rw [e1]; omega

end

variable (m : (l : Loc nD τ sig) → Buf (Elt Ideal) l) (c : Dev nD)

/-- The arguments hold real data on a device. -/
abbrev ArgsHold (g : Model.Data) : Prop :=
  Args.Holds (m ((c.tc : Thread nD τ).loc main_arg0)) (m ((c.tc : Thread nD τ).loc main_arg1))
    (m ((c.tc : Thread nD τ).loc main_arg2)) (m ((c.tc : Thread nD τ).loc main_arg3)) g

/-- Then the blocks of every grid point hold real data. -/
theorem holds {g : Model.Data} (H : ArgsHold m c g) (t : Fin cfg0.N) :
    Block.Holds (iblk m c 0 t) (iblk m c 1 t) (iblk m c 2 t) (iblk m c 3 t) (iblk m c 4 t) g (pixels g (batch t)) where
  x k p := by
    rw [block0, Prefix.v0_eq]
    exact (Prefix.image_at _ _ _ _).trans (H.x _ _ _ _)
  w d k := by
    rw [block1, V_main_arg1]
    exact H.w d k
  b d := by
    rw [block2, Prefix.v8_eq]
    exact (Prefix.column_at _ _ _).trans (H.b d)
  t k d := by
    rw [block3, Prefix.v3_eq]
    refine (Prefix.scaled_at _ _ _).trans ?_
    rw [Args.minusTwo, H.e, ← EReal.coe_mul]
  book d k := by
    rw [block4, Prefix.v7_eq]
    exact (Prefix.book_code _ _ _).trans (H.e d k)
  half k := by
    rw [block4, Prefix.v7_eq]
    exact (Prefix.book_half _ _).trans (Digits.half k)
  rem k := by
    rw [block4, Prefix.v7_eq]
    exact (Prefix.book_rem _ _).trans (Digits.rem k)

/-- A pixel's distances in its block are its distances in the data. -/
theorem dist_pixels (g : Model.Data) (i : Fin 8) (p : Fin 4096) : Block.dist g (pixels g i) p = g.dist i (row p) (col p) := rfl

end Inputs

end
-- ==== Proof.Cases.lean ====
module

public import proofs.«01_k».proof.Proof.Gen.KernelIdeal.Frame
public import Idealize.ShloMosaic.Lib.Pipeline.Value
public import Idealize.ShloMosaic.Lib.Tactic

/-! # What a grid point leaves in the output blocks

In either case of the body's conditional, the contents of the three output blocks after the body, as the body's
stored values on the input blocks: the first point starts the running sum at zero, every later one adds to what
the point before left. -/

@[expose] public section

noncomputable section

namespace Cases

open Cert.KernelIdeal Cert.KernelIdeal.Gen Idealize.ShloMosaic Idealize.ShloMosaic.TcCoe Idealize.SL.Sem

variable {F : FTy → Type} [FloatOps F]

/-- Two zero offsets are the zero function. -/
theorem hz2 : (![0, 0] : Fin 2 → Nat) = fun _ => 0 := funext fun a => by fin_cases a <;> rfl
/-- Three zero offsets are the zero function. -/
theorem hz3 : (![0, 0, 0] : Fin 3 → Nat) = fun _ => 0 := funext fun a => by fin_cases a <;> rfl
/-- Four zero offsets are the zero function. -/
theorem hz4 : (![0, 0, 0, 0] : Fin 4 → Nat) = fun _ => 0 := funext fun a => by fin_cases a <;> rfl

variable (c : Dev nD) (i : grid0.Coords)
  (a0 : Memref sig .tc .vmem S1x128x4096 .f32) (h0 : a0.IsWhole)
  (a1 : Memref sig .tc .vmem S64x128 .f32) (h1 : a1.IsWhole)
  (a2 : Memref sig .tc .vmem S64x1 .f32) (h2 : a2.IsWhole)
  (a3 : Memref sig .tc .vmem S512x64 .f32) (h3 : a3.IsWhole)
  (a4 : Memref sig .tc .vmem S72x512 .f32) (h4 : a4.IsWhole)
  (a5 : Memref sig .tc .vmem S1x64x64x64 .f32) (h5 : a5.IsWhole)
  (a6 : Memref sig .tc .vmem S1x1x4096 .i32) (h6 : a6.IsWhole)
  (a7 : Memref sig .tc .vmem S1x1 .f32) (h7 : a7.IsWhole)
  (x : Vec F S1x128x4096 .f32) (w : Vec F S64x128 .f32) (b : Vec F S64x1 .f32) (t : Vec F S512x64 .f32) (a : Vec F S72x512 .f32)
  (u : Vec F S1x1 .f32)

/-- At the first point the first output block holds the selected codewords. -/
theorem outA_5 (hc : cond0_0 i) :
    out0_A_5 c i a0 h0 a1 h1 a2 h2 a3 h3 a4 h4 a5 h5 a6 h6 a7 h7 hc x w b t a = k0_pay1 (k0_pay8 x w b t a) := by
  unfold out0_A_5
  rw [View.read_writes_eq_canon _ _ _ (cover0_A_5 c i a0 h0 a1 h1 a2 h2 a3 h3 a4 h4 a5 h5 a6 h6 a7 h7 hc x w b t a)]
  unfold kernelRun0_A
  dsimp only
  try sl_unfold_words
  rw [View.canon_unit_zero hz4]
  simp only [View.readAt_eq_ld, h0.read_unread, h1.read_unread, h2.read_unread, h3.read_unread, h4.read_unread, View.ld_unit_zero (S := S1x128x4096) hz3, View.ld_unit_zero (S := S64x128) hz2, View.ld_unit_zero (S := S64x1) hz2, View.ld_unit_zero (S := S512x64) hz2, View.ld_unit_zero (S := S72x512) hz2]

/-- At the first point the second output block holds the indices. -/
theorem outA_6 (hc : cond0_0 i) :
    out0_A_6 c i a0 h0 a1 h1 a2 h2 a3 h3 a4 h4 a5 h5 a6 h6 a7 h7 hc x w b t a = k0_pay2 (k0_pay7 x w b t a) := by
  unfold out0_A_6
  rw [View.read_writes_eq_canon _ _ _ (cover0_A_6 c i a0 h0 a1 h1 a2 h2 a3 h3 a4 h4 a5 h5 a6 h6 a7 h7 hc x w b t a)]
  unfold kernelRun0_A
  dsimp only
  try sl_unfold_words
  rw [View.canon_unit_zero hz3]
  simp only [View.readAt_eq_ld, h0.read_unread, h1.read_unread, h2.read_unread, h3.read_unread, h4.read_unread, View.ld_unit_zero (S := S1x128x4096) hz3, View.ld_unit_zero (S := S64x128) hz2, View.ld_unit_zero (S := S64x1) hz2, View.ld_unit_zero (S := S512x64) hz2, View.ld_unit_zero (S := S72x512) hz2]

/-- At the first point the third output block holds zero plus the block's least distances. -/
theorem outA_7 (hc : cond0_0 i) :
    out0_A_7 c i a0 h0 a1 h1 a2 h2 a3 h3 a4 h4 a5 h5 a6 h6 a7 h7 hc x w b t a = k0_pay4 (k0_pay6 x w b t) k0_pay3 := by
  unfold out0_A_7
  rw [View.read_writes_eq_canon _ _ _ (cover0_A_7 c i a0 h0 a1 h1 a2 h2 a3 h3 a4 h4 a5 h5 a6 h6 a7 h7 hc x w b t a)]
  unfold kernelRun0_A
  dsimp only
  sl_unfold_words
  rw [View.canon_cons_unit_zero (S := S1x1) hz2, View.readCov_unit_zero (S := S1x1) _ hz2]
  simp only [View.readAt_eq_ld, h0.read_unread, h1.read_unread, h2.read_unread, h3.read_unread, h4.read_unread, View.ld_unit_zero (S := S1x128x4096) hz3, View.ld_unit_zero (S := S64x128) hz2, View.ld_unit_zero (S := S64x1) hz2, View.ld_unit_zero (S := S512x64) hz2, View.ld_unit_zero (S := S72x512) hz2]

/-- At a later point the first output block holds the selected codewords. -/
theorem outB_5 (hc : ¬cond0_0 i) :
    out0_B_5 c i a0 h0 a1 h1 a2 h2 a3 h3 a4 h4 a5 h5 a6 h6 a7 h7 hc x w b t a u = k0_pay1 (k0_pay8 x w b t a) := by
  unfold out0_B_5
  rw [View.read_writes_eq_canon _ _ _ (cover0_B_5 c i a0 h0 a1 h1 a2 h2 a3 h3 a4 h4 a5 h5 a6 h6 a7 h7 hc x w b t a u)]
  unfold kernelRun0_B
  dsimp only
  try sl_unfold_words
  rw [View.canon_unit_zero hz4]
  simp only [View.readAt_eq_ld, h0.read_unread, h1.read_unread, h2.read_unread, h3.read_unread, h4.read_unread, View.ld_unit_zero (S := S1x128x4096) hz3, View.ld_unit_zero (S := S64x128) hz2, View.ld_unit_zero (S := S64x1) hz2, View.ld_unit_zero (S := S512x64) hz2, View.ld_unit_zero (S := S72x512) hz2]

/-- At a later point the second output block holds the indices. -/
theorem outB_6 (hc : ¬cond0_0 i) :
    out0_B_6 c i a0 h0 a1 h1 a2 h2 a3 h3 a4 h4 a5 h5 a6 h6 a7 h7 hc x w b t a u = k0_pay2 (k0_pay7 x w b t a) := by
  unfold out0_B_6
  rw [View.read_writes_eq_canon _ _ _ (cover0_B_6 c i a0 h0 a1 h1 a2 h2 a3 h3 a4 h4 a5 h5 a6 h6 a7 h7 hc x w b t a u)]
  unfold kernelRun0_B
  dsimp only
  try sl_unfold_words
  rw [View.canon_unit_zero hz3]
  simp only [View.readAt_eq_ld, h0.read_unread, h1.read_unread, h2.read_unread, h3.read_unread, h4.read_unread, View.ld_unit_zero (S := S1x128x4096) hz3, View.ld_unit_zero (S := S64x128) hz2, View.ld_unit_zero (S := S64x1) hz2, View.ld_unit_zero (S := S512x64) hz2, View.ld_unit_zero (S := S72x512) hz2]

/-- At a later point the third output block holds what it held plus the block's least distances. -/
theorem outB_7 (hc : ¬cond0_0 i) :
    out0_B_7 c i a0 h0 a1 h1 a2 h2 a3 h3 a4 h4 a5 h5 a6 h6 a7 h7 hc x w b t a u = k0_pay4 (k0_pay6 x w b t) u := by
  unfold out0_B_7
  rw [View.read_writes_eq_canon _ _ _ (cover0_B_7 c i a0 h0 a1 h1 a2 h2 a3 h3 a4 h4 a5 h5 a6 h6 a7 h7 hc x w b t a u)]
  unfold kernelRun0_B
  dsimp only
  try sl_unfold_words
  rw [View.canon_unit_zero hz2]
  simp only [View.readAt_eq_ld, h0.read_unread, h1.read_unread, h2.read_unread, h3.read_unread, h4.read_unread, View.ld_unit_zero (S := S1x128x4096) hz3, View.ld_unit_zero (S := S64x128) hz2, View.ld_unit_zero (S := S64x1) hz2, View.ld_unit_zero (S := S512x64) hz2, View.ld_unit_zero (S := S72x512) hz2, h7.read_unread, View.ld_unit_zero (S := S1x1) hz2]

end Cases

end
-- ==== Proof.Arrays.lean ====
module

public import proofs.«01_k».proof.Proof.Inputs
public import proofs.«01_k».proof.Proof.Cases

/-! # What the pipeline's output arrays hold after the last point

On arguments that hold real data for which every pixel has one nearest codeword: the codewords, the indices, and
the sum over all images of the pixels' least squared distances. -/

@[expose] public section

set_option maxRecDepth 16384

noncomputable section

namespace Arrays

open Cert.KernelIdeal Cert.KernelIdeal.Gen Idealize.ShloMosaic Idealize.ShloMosaic.Pointwise Idealize.ShloMosaic.TcCoe Idealize.SL.Sem
open Inputs

section
variable {F : FTy → Type} [FloatOps F]
variable (m : (l : Loc nD τ sig) → Buf (Elt F) l) (c : Dev nD)

/-- After any point the first output block holds the body's first stored value on the point's blocks. -/
theorem first (t : Fin cfg0.N) : (outsAt0 m c t.val t.isLt).1
    = k0_pay1 (k0_pay8 (iblk m c 0 t) (iblk m c 1 t) (iblk m c 2 t) (iblk m c 3 t) (iblk m c 4 t)) := by
  by_cases h : t.val % 8 = 0
  · rw [outsAt0_A m c t h]
    dsimp only
    rw [Cases.outA_5]
  · rw [outsAt0_B m c t h]
    dsimp only
    rw [Cases.outB_5]

/-- After any point the second output block holds the body's second stored value on the point's blocks. -/
theorem second (t : Fin cfg0.N) : (outsAt0 m c t.val t.isLt).2.1
    = k0_pay2 (k0_pay7 (iblk m c 0 t) (iblk m c 1 t) (iblk m c 2 t) (iblk m c 3 t) (iblk m c 4 t)) := by
  by_cases h : t.val % 8 = 0
  · rw [outsAt0_A m c t h]
    dsimp only
    rw [Cases.outA_6]
  · rw [outsAt0_B m c t h]
    dsimp only
    rw [Cases.outB_6]

/-- After the first point the third holds the first image's sum on top of zero. -/
theorem third_first (h : 0 < cfg0.N) : (outsAt0 m c 0 h).2.2
    = k0_pay4 (k0_pay6 (iblk m c 0 ⟨0, h⟩) (iblk m c 1 ⟨0, h⟩) (iblk m c 2 ⟨0, h⟩) (iblk m c 3 ⟨0, h⟩)) k0_pay3 := by
  refine (congrArg (fun o => o.2.2) (outsAt0_A m c ⟨0, h⟩ rfl)).trans ?_
  dsimp only
  rw [Cases.outA_7]

/-- After a later point the third holds the point's sum on top of what the point before left. -/
theorem third_next (k : ℕ) (h : k + 1 < cfg0.N) : (outsAt0 m c (k + 1) h).2.2
    = k0_pay4 (k0_pay6 (iblk m c 0 ⟨k + 1, h⟩) (iblk m c 1 ⟨k + 1, h⟩) (iblk m c 2 ⟨k + 1, h⟩) (iblk m c 3 ⟨k + 1, h⟩))
        (outsAt0 m c k (Nat.lt_of_succ_lt h)).2.2 := by
  have hN : cfg0.N = 8 := N_0
  refine (congrArg (fun o => o.2.2) (outsAt0_B m c ⟨k + 1, h⟩ (by dsimp only; omega))).trans ?_
  dsimp only
  rw [Cases.outB_7]
  simp only [Nat.add_sub_cancel]

end

variable (m : (l : Loc nD τ sig) → Buf (Elt Ideal) l) (c : Dev nD)
variable {g : Model.Data} {n : Fin 8 → Fin 64 → Fin 64 → Fin 512}

/-- An image's sum of least squared distances, its pixels in row-major order. -/
abbrev part (g : Model.Data) (n : Fin 8 → Fin 64 → Fin 64 → Fin 512) (i : Fin 8) : ℝ :=
  ∑ p : Fin 4096, g.dist i (row p) (col p) (n i (row p) (col p))

/-- The third block after point `k` is the sum of the first `k + 1` images' parts. -/
theorem third (H : ArgsHold m c g) (hn : ∀ i h l, Model.Nearest (g.dist i h l) (n i h l)) (z y : Fin 1) :
    ∀ (k : ℕ) (h : k < cfg0.N), (outsAt0 m c k h).2.2 (ix2 z y)
      = ((∑ i ∈ Finset.univ.filter (fun i : Fin 8 => i.val ≤ k), part g n i : ℝ) : EReal)
  | 0, h => by
    rw [third_first m c h, Block.out7 (holds m c H ⟨0, h⟩) (k0_pay3 (F := Ideal)) z y (fun p => n (batch ⟨0, h⟩) (row p) (col p)) (fun p => hn (batch ⟨0, h⟩) (row p) (col p)), Block.pay3_at, zero_add]
    have e : Finset.univ.filter (fun i : Fin 8 => i.val ≤ 0) = {batch ⟨0, h⟩} := by decide +revert
    rw [e, Finset.sum_singleton]
    rfl
  | k + 1, h => by
    have hN : cfg0.N = 8 := N_0
    rw [third_next m c k h, Block.out7 (holds m c H ⟨k + 1, h⟩) _ z y (fun p => n (batch ⟨k + 1, h⟩) (row p) (col p)) (fun p => hn (batch ⟨k + 1, h⟩) (row p) (col p)),
      third H hn z y k, ← EReal.coe_add]
    have e : Finset.univ.filter (fun i : Fin 8 => i.val ≤ k + 1)
        = insert (batch ⟨k + 1, h⟩) (Finset.univ.filter (fun i : Fin 8 => i.val ≤ k)) := by
      ext i
      simp only [Finset.mem_filter, Finset.mem_univ, true_and, Finset.mem_insert, Fin.ext_iff]
      omega
    rw [e, Finset.sum_insert (by simp), add_comm]
    rfl

/-- The codewords' array. -/
abbrev codes (g : Model.Data) (n : Fin 8 → Fin 64 → Fin 64 → Fin 512) : Vec Ideal S8x64x64x64 .f32 :=
  fun j => Args.quantized g n (j 0) (j 1) (j 2) (j 3)

/-- The indices' array, each image's pixels in row-major order. -/
abbrev indices (n : Fin 8 → Fin 64 → Fin 64 → Fin 512) : Vec Ideal S8x1x4096 .i32 :=
  fun j => Args.index n (j 0) (row (j 2)) (col (j 2))

/-- The sum's array. -/
abbrev total (g : Model.Data) (n : Fin 8 → Fin 64 → Fin 64 → Fin 512) : Vec Ideal S1x1 .f32 :=
  fun _ => ((∑ i, part g n i : ℝ) : EReal)

/-- Grid point `t` writes block `(t, 0, 0, 0)` of the first output array. -/
theorem index5 : ∀ t : Fin cfg0.N, win0_5.index t 0 = t.val ∧ win0_5.index t 1 = 0 ∧ win0_5.index t 2 = 0 ∧ win0_5.index t 3 = 0 :=
  (by decide +kernel : ∀ t : Fin grid0.N, win0_5.index t 0 = t.val ∧ win0_5.index t 1 = 0 ∧ win0_5.index t 2 = 0 ∧ win0_5.index t 3 = 0)
/-- Grid point `t` writes block `(t, 0, 0)` of the second. -/
theorem index6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
/-- Every grid point has the one block of the third. -/
theorem index7 : ∀ t : Fin cfg0.N, win0_7.index t 0 = 0 ∧ win0_7.index t 1 = 0 :=
  (by decide +kernel : ∀ t : Fin grid0.N, win0_7.index t 0 = 0 ∧ win0_7.index t 1 = 0)

/-- Each write-back of the first output window writes its block of the codewords' array. -/
theorem flushed5 (H : ArgsHold m c g) (hn : ∀ i h l, Model.Nearest (g.dist i h l) (n i h l)) (t : Fin cfg0.N) :
    (dats m 0 c).flushed 5 t = ((cfg0.win 5).blk t).view.read (Elt Ideal) (codes g n) := by
  obtain ⟨e0, e1, e2, e3⟩ := index5 t
  show (cfg0.win 5).cut (grid0.coords t) ((dats m 0 c).after 5 t) = _
  rw [after0_5, first]
  refine funext fun (j : S1x64x64x64.Idx) => ?_
  obtain ⟨z, d, r, l, rfl⟩ : ∃ z d r l, j = ix4 z d r l := ⟨j 0, j 1, j 2, j 3, eq_ix4 j⟩
  rw [View.read_apply]
  have e : ((cfg0.win 5).blk t).view.emb (ix4 z d r l) = (ix4 (batch t) d r l : S8x64x64x64.Idx) := by
    funext a
    apply Fin.ext
    match a with
    | ⟨0, _⟩ => show win0_5.index t 0 * 1 + 1 * z.val = t.val; rw [e0]; omega
    | ⟨1, _⟩ => show win0_5.index t 1 * 64 + 1 * d.val = d.val; rw [e1]; omega
    | ⟨2, _⟩ => show win0_5.index t 2 * 64 + 1 * r.val = r.val; rw [e2]; omega
    | ⟨3, _⟩ => show win0_5.index t 3 * 64 + 1 * l.val = l.val; rw [e3]; omega
  refine Eq.trans ?_ (congrArg (codes g n) e).symm
  refine Block.out5 (holds m c H t) z d r l (n (batch t) r l) ?_
  rw [dist_pixels]
  have hr : row (⟨r.val * 64 + l.val, by omega⟩ : Fin 4096) = r := Fin.ext (by show (r.val * 64 + l.val) / 64 = r.val; omega)
  have hl : col (⟨r.val * 64 + l.val, by omega⟩ : Fin 4096) = l := Fin.ext (by show (r.val * 64 + l.val) % 64 = l.val; omega)
  rw [hr, hl]
  exact hn (batch t) r l

/-- Each write-back of the second writes its block of the indices' array. -/
theorem flushed6 (H : ArgsHold m c g) (hn : ∀ i h l, Model.Nearest (g.dist i h l) (n i h l)) (t : Fin cfg0.N) :
    (dats m 0 c).flushed 6 t = ((cfg0.win 6).blk t).view.read (Elt Ideal) (indices n) := by
  obtain ⟨e0, e1, e2⟩ := index6 t
  show (cfg0.win 6).cut (grid0.coords t) ((dats m 0 c).after 6 t) = _
  rw [after0_6, second]
  refine funext fun (j : S1x1x4096.Idx) => ?_
  obtain ⟨z, y, p, rfl⟩ : ∃ z y p, j = ix3 z y p := ⟨j 0, j 1, j 2, eq_ix3 j⟩
  rw [View.read_apply]
  have e : ((cfg0.win 6).blk t).view.emb (ix3 z y p) = (ix3 (batch t) y p : S8x1x4096.Idx) := by
    funext a
    apply Fin.ext
    match a with
    | ⟨0, _⟩ => show win0_6.index t 0 * 1 + 1 * z.val = t.val; rw [e0]; omega
    | ⟨1, _⟩ => show win0_6.index t 1 * 1 + 1 * y.val = y.val; rw [e1]; omega
    | ⟨2, _⟩ => show win0_6.index t 2 * 4096 + 1 * p.val = p.val; rw [e2]; omega
  refine Eq.trans ?_ (congrArg (indices n) e).symm
  exact Block.out6 (holds m c H t) z y p (n (batch t) (row p) (col p)) (hn (batch t) (row p) (col p))

/-- The third's one write-back, at the last point, writes the whole sum. -/
theorem flushed7 (H : ArgsHold m c g) (hn : ∀ i h l, Model.Nearest (g.dist i h l) (n i h l)) (t : Fin cfg0.N)
    (hf : (cfg0.win 7).flush t = true) :
    (dats m 0 c).flushed 7 t = ((cfg0.win 7).blk t).view.read (Elt Ideal) (total g n) := by
  have ht : t.val = 7 := by
    have h7 := (flush0_7 t).mp hf
    have hN : t.val < 8 := lt_of_lt_of_eq t.isLt (show cfg0.N = 8 from N_0)
    omega
  show (cfg0.win 7).cut (grid0.coords t) ((dats m 0 c).after 7 t) = _
  rw [after0_7]
  refine funext fun (j : S1x1.Idx) => ?_
  obtain ⟨z, y, rfl⟩ : ∃ z y, j = ix2 z y := ⟨j 0, j 1, eq_ix2 j⟩
  rw [View.read_apply]
  refine (third m c H hn z y t.val t.isLt).trans ?_
  have e : Finset.univ.filter (fun i : Fin 8 => i.val ≤ t.val) = Finset.univ := by rw [ht]; decide
  rw [e]
  rfl

/-- So the first output array ends as the codewords' array. -/
theorem final5 (H : ArgsHold m c g) (hn : ∀ i h l, Model.Nearest (g.dist i h l) (n i h l)) :
    (dats m 0 c).arrAt 5 cfg0.N = codes g n :=
  (dats m 0 c).arrAt_eq_of_cover 5 (codes g n) (fun t _ => flushed5 m c H hn t) fun (i : S8x64x64x64.Idx) => by
    have hN : cfg0.N = 8 := N_0
    have hi : (i 0).val < 8 := (i 0).isLt
    refine ⟨⟨(i 0).val, by omega⟩, flush0_5 _, ?_⟩
    generalize ht : (⟨(i 0).val, by omega⟩ : Fin cfg0.N) = t
    have hv : t.val = (i 0).val := by rw [← ht]
    obtain ⟨e0, e1, e2, e3⟩ := index5 t
    show i ∈ ((View.whole main_v9_0).slice (win0_5.rect t)).set
    rw [View.set_slice_whole, Rect.mem_set_unit]
    intro a
    have h1 : (i 1).val < 64 := (i 1).isLt
    have h2 : (i 2).val < 64 := (i 2).isLt
    have h3 : (i 3).val < 64 := (i 3).isLt
    match a with
    | ⟨0, _⟩ => show win0_5.index t 0 * 1 ≤ (i 0).val ∧ (i 0).val < win0_5.index t 0 * 1 + 1; rw [e0]; omega
    | ⟨1, _⟩ => show win0_5.index t 1 * 64 ≤ (i 1).val ∧ (i 1).val < win0_5.index t 1 * 64 + 64; rw [e1]; omega
    | ⟨2, _⟩ => show win0_5.index t 2 * 64 ≤ (i 2).val ∧ (i 2).val < win0_5.index t 2 * 64 + 64; rw [e2]; omega
    | ⟨3, _⟩ => show win0_5.index t 3 * 64 ≤ (i 3).val ∧ (i 3).val < win0_5.index t 3 * 64 + 64; rw [e3]; omega

/-- The second ends as the indices' array. -/
theorem final6 (H : ArgsHold m c g) (hn : ∀ i h l, Model.Nearest (g.dist i h l) (n i h l)) :
    (dats m 0 c).arrAt 6 cfg0.N = indices n :=
  (dats m 0 c).arrAt_eq_of_cover 6 (indices n) (fun t _ => flushed6 m c H hn t) fun (i : S8x1x4096.Idx) => by
    have hN : cfg0.N = 8 := N_0
    have hi : (i 0).val < 8 := (i 0).isLt
    refine ⟨⟨(i 0).val, by omega⟩, flush0_6 _, ?_⟩
    generalize ht : (⟨(i 0).val, by omega⟩ : Fin cfg0.N) = t
    have hv : t.val = (i 0).val := by rw [← ht]
    obtain ⟨e0, e1, e2⟩ := index6 t
    show i ∈ ((View.whole main_v9_1).slice (win0_6.rect t)).set
    rw [View.set_slice_whole, Rect.mem_set_unit]
    intro a
    have h1 : (i 1).val < 1 := (i 1).isLt
    have h2 : (i 2).val < 4096 := (i 2).isLt
    match a with
    | ⟨0, _⟩ => show win0_6.index t 0 * 1 ≤ (i 0).val ∧ (i 0).val < win0_6.index t 0 * 1 + 1; rw [e0]; omega
    | ⟨1, _⟩ => show win0_6.index t 1 * 1 ≤ (i 1).val ∧ (i 1).val < win0_6.index t 1 * 1 + 1; rw [e1]; omega
    | ⟨2, _⟩ => show win0_6.index t 2 * 4096 ≤ (i 2).val ∧ (i 2).val < win0_6.index t 2 * 4096 + 4096; rw [e2]; omega

/-- The third ends as the sum's array. -/
theorem final7 (H : ArgsHold m c g) (hn : ∀ i h l, Model.Nearest (g.dist i h l) (n i h l)) :
    (dats m 0 c).arrAt 7 cfg0.N = total g n :=
  (dats m 0 c).arrAt_eq_of_cover 7 (total g n) (flushed7 m c H hn) fun (i : S1x1.Idx) => by
    refine ⟨t0_7, (flush0_7 _).mpr rfl, ?_⟩
    obtain ⟨e0, e1⟩ := index7 t0_7
    show i ∈ ((View.whole main_v9_2).slice (win0_7.rect t0_7)).set
    rw [View.set_slice_whole, Rect.mem_set_unit]
    intro a
    have h0 : (i 0).val < 1 := (i 0).isLt
    have h1 : (i 1).val < 1 := (i 1).isLt
    match a with
    | ⟨0, _⟩ => show win0_7.index t0_7 0 * 1 ≤ (i 0).val ∧ (i 0).val < win0_7.index t0_7 0 * 1 + 1; rw [e0]; omega
    | ⟨1, _⟩ => show win0_7.index t0_7 1 * 1 ≤ (i 1).val ∧ (i 1).val < win0_7.index t0_7 1 * 1 + 1; rw [e1]; omega

end Arrays

end
-- ==== Proof.Results.lean ====
module

public import proofs.«01_k».proof.Proof.Arrays

/-! # The kernel's results

The host's operations after the pipeline reshape the indices and divide the sum; read at an index, the three
results are the codewords, the mean of the pixels' least squared distances, and the indices. -/

@[expose] public section

set_option maxRecDepth 16384

noncomputable section

namespace Results

open Cert.KernelIdeal Cert.KernelIdeal.Gen Idealize.ShloMosaic Idealize.ShloMosaic.Pointwise Idealize.ShloMosaic.TcCoe
open Idealize.ShloMosaic.StableHlo Idealize.SL.Sem Inputs

section
variable {F : FTy → Type} [FloatOps F]

/-- The indices with the spatial axes apart. -/
abbrev split (k : Vec F S8x1x4096 .i32) : Vec F S8x64x64 .i32 := shapeCast S8x64x64 k shapeCasts_S8x1x4096_S8x64x64

/-- The sum divided by the number of squared differences. -/
abbrev mean (s : Vec F S1x1 .f32) : Vec F S_ .f32 :=
  Host.divf (shapeCast S_ s shapeCasts_S1x1_S_) (constant S_ .f32 0x4A000000#32 : Vec F S_ .f32)

set_option maxHeartbeats 4000000 in
/-- The operations after the pipeline leave `split` of the second output array. -/
theorem tail_v10 (W : Valuation τ sig (Elt F)) :
    after (List.flatten [hostOps1]) W (Proc.devRef .tc main_v10) = split (W (Proc.devRef .tc main_v9_1)) := by
  simp only [hostOps1, List.flatten_cons, List.flatten_nil, List.append_nil]
  after_results_simp <;> rfl

set_option maxHeartbeats 4000000 in
/-- They leave `mean` of the third. -/
theorem tail_v12 (W : Valuation τ sig (Elt F)) :
    after (List.flatten [hostOps1]) W (Proc.devRef .tc main_v12) = mean (W (Proc.devRef .tc main_v9_2)) := by
  simp only [hostOps1, List.flatten_cons, List.flatten_nil, List.append_nil]
  after_results_simp <;> rfl

/-- No two windows share an array. -/
theorem arr_injective : Function.Injective (Pipeline.arrRef spec0) :=
  (by decide : ∀ w w' : Fin 8, Pipeline.arrRef spec0 w = Pipeline.arrRef spec0 w' → w = w')

variable (m : (l : Loc nD τ sig) → Buf (Elt F) l) (c : Dev nD)

/-- After the run the third result's buffer. -/
theorem end_v10 : Pipeline.afterTail₀ cfgs (dats m) 0 (V0 m) [hostOps1] c main_v10 = split ((dats m 0 c).arrAt 6 cfg0.N) := by
  unfold Pipeline.afterTail₀
  rw [tail_v10]
  exact congrArg split (Pipeline.withArrays_arr spec0 arr_injective c (V0 m c) (fun w => (dats m 0 c).arrAt w cfg0.N) 6)

/-- After the run the second result's buffer. -/
theorem end_v12 : Pipeline.afterTail₀ cfgs (dats m) 0 (V0 m) [hostOps1] c main_v12 = mean ((dats m 0 c).arrAt 7 cfg0.N) := by
  unfold Pipeline.afterTail₀
  rw [tail_v12]
  exact congrArg mean (Pipeline.withArrays_arr spec0 arr_injective c (V0 m c) (fun w => (dats m 0 c).arrAt w cfg0.N) 7)

end

/-- The pixels of an image, by row-major place or by row and column. -/
def places : Fin 4096 ≃ Fin 64 × Fin 64 where
  toFun p := (row p, col p)
  invFun q := ⟨q.1.val * 64 + q.2.val, by omega⟩
  left_inv p := Fin.ext (by show p.val / 64 * 64 + p.val % 64 = p.val; omega)
  right_inv q := Prod.ext (Fin.ext (by show (q.1.val * 64 + q.2.val) / 64 = q.1.val; omega))
    (Fin.ext (by show (q.1.val * 64 + q.2.val) % 64 = q.2.val; omega))

/-- A sum over an image's places is the sum over its rows of the sums over its columns. -/
theorem sum_places (f : Fin 64 → Fin 64 → ℝ) : ∑ p : Fin 4096, f (row p) (col p) = ∑ h, ∑ l, f h l := by
  rw [← Fintype.sum_prod_type' (f := f)]
  exact Fintype.sum_equiv places _ _ fun _ => rfl

/-- A split index is that at its row-major place. -/
theorem split_at (k : Vec Ideal S8x1x4096 .i32) (i : Fin 8) (h l : Fin 64) :
    split k (ix3 i h l) = k (ix3 i (0 : Fin 1) (⟨h.val * 64 + l.val, by omega⟩ : Fin 4096)) := by
  pointwise [split]

/-- The mean is the one sum divided by the count. -/
theorem mean_at (s : Vec Ideal S1x1 .f32) : mean s ix0 = Ideal.div (s (ix2 (0 : Fin 1) (0 : Fin 1))) Args.count := by
  pointwise [mean]

/-- The indices' array split is the indices. -/
theorem split_indices (n : Fin 8 → Fin 64 → Fin 64 → Fin 512) (i : Fin 8) (h l : Fin 64) :
    split (Arrays.indices n) (ix3 i h l) = Args.index n i h l := by
  rw [split_at]
  show Args.index n i (row (⟨h.val * 64 + l.val, _⟩ : Fin 4096)) (col (⟨h.val * 64 + l.val, _⟩ : Fin 4096)) = _
  have hr : row (⟨h.val * 64 + l.val, by omega⟩ : Fin 4096) = h := Fin.ext (by show (h.val * 64 + l.val) / 64 = h.val; omega)
  have hl : col (⟨h.val * 64 + l.val, by omega⟩ : Fin 4096) = l := Fin.ext (by show (h.val * 64 + l.val) % 64 = l.val; omega)
  rw [hr, hl]

/-- The sum's array divided is the mean. -/
theorem mean_total (g : Model.Data) (n : Fin 8 → Fin 64 → Fin 64 → Fin 512) : mean (Arrays.total g n) ix0 = Args.meanSq g n := by
  rw [mean_at]
  unfold Args.meanSq
  refine congrArg (fun s : ℝ => Ideal.div ((s : ℝ) : EReal) Args.count) ?_
  exact Finset.sum_congr rfl fun i _ => sum_places fun h l => g.dist i h l (n i h l)

end Results

end
-- ==== Proof.RefRun.lean ====
module

public import proofs.«01_k».proof.Proof.Gen.ReferenceIdeal
public import Idealize.ShloMosaic.Lib.StableHlo.Run
public import Idealize.ShloMosaic.Lib.Pipeline.Frame

/-! # The reference's run

The reference program as a list of its host operations (each function call replaced by the operations of the
function it calls), and its run: every weakly fair execution ends with each result buffer at a stated function
of the arguments, the arguments unchanged and the semaphore counters at zero. The functions are stated in
stages: the linear map, the distances, the codes, the codewords the codes name, and the three results. -/

@[expose] public section

set_option maxRecDepth 16384

noncomputable section

namespace RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The linear map of the input's channels plus the bias, channels last. -/
def lin (x : FVec F S8x128x64x64 .f32) (w : FVec F S64x128 .f32) (b : FVec F S64 .f32) : FVec F S8x64x64x64 .f32 :=
  addf (Host.dotGeneral dot_S8x128x64x64_S64x128_S8x64x64x64_1_1_023_0_n_n none x w)
    (broadcastInDim S8x64x64x64 ![0, 1, 2, 3] bcast_S1x1x1x64_S8x64x64x64_0_1_2_3
      (broadcastInDim S1x1x1x64 ![3] bcast_S64_S1x1x1x64_3 b))

/-- The pixels' vectors in a row each. -/
def rows (y : FVec F S8x64x64x64 .f32) : FVec F S32768x64 .f32 :=
  shapeCast S32768x64 y shapeCasts_S8x64x64x64_S32768x64

/-- Each row's squared distance to each codeword, in the three-term form the reference writes it. -/
def dist (f : FVec F S32768x64 .f32) (e : FVec F S64x512 .f32) : FVec F S32768x512 .f32 :=
  addf
    (subf
      (broadcastInDim S32768x512 ![0, 1] bcast_S32768x1_S32768x512_0_1
        (broadcastInDim S32768x1 ![0] bcast_S32768_S32768x1_0
          (Host.reduceAdd (mulf f f) (constant S_ .f32 0x00000000#32) reducesTo_S32768x64_S32768_d1 h_S_)))
      (mulf (broadcastInDim S32768x512 ![] bcast_S_S32768x512 (constant S_ .f32 0x40000000#32))
        (Host.dotGeneral dot_S32768x64_S64x512_S32768x512_1_0_0_1_n_n none f e)))
    (broadcastInDim S32768x512 ![0, 1] bcast_S1x512_S32768x512_0_1
      (broadcastInDim S1x512 ![1] bcast_S512_S1x512_1
        (Host.reduceAdd (mulf e e) (constant S_ .f32 0x00000000#32) reducesTo_S64x512_S512_d0 h_S_)))

/-- A function of an argument-and-index reduction's four operands: what each of its two results is. -/
abbrev Pair (S : Shape) (E : EltTy) (F : FTy → Type) :=
  FVec F S32768x512 .f32 → IVec S32768x512 32 → FVec F S_ .f32 → IVec S_ 32 → (⟨S, E⟩ : BufTy).Contents (Elt F)

/-- The greatest value of each row. -/
def greatest : Pair S32768 .f32 F := fun x y u v j =>
  (Host.argReduce reducer_argmax_f32_i32 x y u v reducesTo_S32768x512_S32768_d1 h_S_ j).1

/-- The index of the greatest value of each row. -/
def greatestAt : Pair S32768 .i32 F := fun x y u v j =>
  (Host.argReduce reducer_argmax_f32_i32 x y u v reducesTo_S32768x512_S32768_d1 h_S_ j).2

/-- Each row's index of its greatest negated distance. -/
def code (d : FVec F S32768x512 .f32) : IVec S32768 32 :=
  greatestAt (Host.negf d) (iotaInDim S32768x512 32 1) (constant S_ .f32 0xFF800000#32) (constantI S_ 32 0#32)

/-- The codes laid out as the image. -/
def ind (k : IVec S32768 32) : IVec S8x64x64 32 := shapeCast S8x64x64 k shapeCasts_S32768_S8x64x64

/-- The codes as row numbers of the table: a negative one counts from the table's end. -/
def rowNo (k : IVec S8x64x64 32) : IVec S8x64x64x1 32 :=
  broadcastInDim S8x64x64x1 ![0, 1, 2] bcast_S8x64x64_S8x64x64x1_0_1_2
    (select (cmpi .slt k (broadcastInDim S8x64x64 ![] bcast_S_S8x64x64 (constantI S_ 32 0#32)))
      (addi k (broadcastInDim S8x64x64 ![] bcast_S_S8x64x64 (constantI S_ 32 512#32))) k)

/-- Whether each row number lies in the table. -/
def inTable (r : IVec S8x64x64x1 32) : IVec S8x64x64 1 :=
  Host.reduce IntOp.andi
    (andi (cmpi .sge r (broadcastInDim S8x64x64x1 ![] bcast_S_S8x64x64x1 (constantI S_ 32 0#32)))
      (cmpi .sle r (broadcastInDim S8x64x64x1 ![0, 1, 2, 3] bcast_S1x1x1x1_S8x64x64x1_0_1_2_3
        (broadcastInDim S1x1x1x1 ![3] bcast_S1_S1x1x1x1_3 (constantI S1 32 511#32)))))
    (constantI S_ 1 1#1) reducesTo_S8x64x64x1_S8x64x64_d3 h_S_

/-- The table's rows the codes name; a row outside the table reads the fill value. -/
def take (t : FVec F S512x64 .f32) (k : IVec S8x64x64 32) : FVec F S8x64x64x64 .f32 :=
  select (broadcastInDim S8x64x64x64 ![0, 1, 2] bcast_S8x64x64_S8x64x64x64_0_1_2 (inTable (rowNo k)))
    (Host.gather gather_S512x64_S8x64x64x1_S8x64x64x64_3_0_n_n_0_3_164 t (rowNo k))
    (broadcastInDim S8x64x64x64 ![] bcast_S_S8x64x64x64 (constant S_ .f32 0x7FC00000#32))

/-- The codebook with a codeword in a row each. -/
def table (e : FVec F S64x512 .f32) : FVec F S512x64 .f32 :=
  transpose S512x64 [1, 0] e transposes_S64x512_S512x64_1_0

/-- The first result of the linear map and the codewords taken: the straight-through sum, channels second. -/
def quant (y q : FVec F S8x64x64x64 .f32) : FVec F S8x64x64x64 .f32 :=
  transpose S8x64x64x64 [0, 3, 1, 2] (addf y (subf q y)) transposes_S8x64x64x64_S8x64x64x64_0_3_1_2

/-- The second: the mean squared difference. -/
def mse (y q : FVec F S8x64x64x64 .f32) : FVec F S_ .f32 :=
  Host.divf (Host.reduceAdd (mulf (subf q y) (subf q y)) (constant S_ .f32 0x00000000#32) reducesTo_S8x64x64x64_S_d0_1_2_3 h_S_)
    (constant S_ .f32 0x4A000000#32)

/-- The third result as a function of the arguments: the codes as the image. -/
def out2 (x : FVec F S8x128x64x64 .f32) (w : FVec F S64x128 .f32) (b : FVec F S64 .f32) (e : FVec F S64x512 .f32) : IVec S8x64x64 32 :=
  ind (code (dist (rows (lin x w b)) e))

/-- The first result as a function of the arguments. -/
def out0 (x : FVec F S8x128x64x64 .f32) (w : FVec F S64x128 .f32) (b : FVec F S64 .f32) (e : FVec F S64x512 .f32) : FVec F S8x64x64x64 .f32 :=
  quant (lin x w b) (take (table e) (out2 x w b e))

/-- The second result as a function of the arguments. -/
def out1 (x : FVec F S8x128x64x64 .f32) (w : FVec F S64x128 .f32) (b : FVec F S64 .f32) (e : FVec F S64x512 .f32) : FVec F S_ .f32 :=
  mse (lin x w b) (take (table e) (out2 x w b e))

/-! ## The run -/

/-- The program's operations, in order (a called function's operations stand in its call's place). -/
abbrev ops : List (HloOp τ sig (Elt F)) :=
  [ binary main_arg0 main_arg1 main_v0 ((fun l r => Host.dotGeneral dot_S8x128x64x64_S64x128_S8x64x64x64_1_1_023_0_n_n none l r) : (⟨S8x128x64x64, .f32⟩ : BufTy).Contents (Elt F) → (⟨S64x128, .f32⟩ : BufTy).Contents (Elt F) → (⟨S8x64x64x64, .f32⟩ : BufTy).Contents (Elt F)),
    unary main_arg2 main_v1 (broadcastInDim S1x1x1x64 ![3] bcast_S64_S1x1x1x64_3 : (⟨S64, .f32⟩ : BufTy).Contents (Elt F) → (⟨S1x1x1x64, .f32⟩ : BufTy).Contents (Elt F)),
    unary main_v1 main_v2 (broadcastInDim S8x64x64x64 ![0, 1, 2, 3] bcast_S1x1x1x64_S8x64x64x64_0_1_2_3 : (⟨S1x1x1x64, .f32⟩ : BufTy).Contents (Elt F) → (⟨S8x64x64x64, .f32⟩ : BufTy).Contents (Elt F)),
    binary main_v0 main_v2 main_v3 (addf : (⟨S8x64x64x64, .f32⟩ : BufTy).Contents (Elt F) → (⟨S8x64x64x64, .f32⟩ : BufTy).Contents (Elt F) → (⟨S8x64x64x64, .f32⟩ : BufTy).Contents (Elt F)),
    reshape main_v3 main_v4 (rfl : (.f32 : EltTy) = .f32) shapeCasts_S8x64x64x64_S32768x64,
    binary main_v4 main_v4 main_v5 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v5 main_cst main_v6 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v6 main_v7 (broadcastInDim S32768x1 ![0] bcast_S32768_S32768x1_0 : (⟨S32768, .f32⟩ : BufTy).Contents (Elt F) → (⟨S32768x1, .f32⟩ : BufTy).Contents (Elt F)),
    binary main_v4 main_arg3 main_v8 ((fun l r => Host.dotGeneral dot_S32768x64_S64x512_S32768x512_1_0_0_1_n_n none l r) : (⟨S32768x64, .f32⟩ : BufTy).Contents (Elt F) → (⟨S64x512, .f32⟩ : BufTy).Contents (Elt F) → (⟨S32768x512, .f32⟩ : BufTy).Contents (Elt F)),
    nullary main_cst_0 (constant S_ .f32 0x40000000#32),
    unary main_cst_0 main_v9 (broadcastInDim S32768x512 ![] bcast_S_S32768x512 : (⟨S_, .f32⟩ : BufTy).Contents (Elt F) → (⟨S32768x512, .f32⟩ : BufTy).Contents (Elt F)),
    binary main_v9 main_v8 main_v10 (mulf : (⟨S32768x512, .f32⟩ : BufTy).Contents (Elt F) → (⟨S32768x512, .f32⟩ : BufTy).Contents (Elt F) → (⟨S32768x512, .f32⟩ : BufTy).Contents (Elt F)),
    unary main_v7 main_v11 (broadcastInDim S32768x512 ![0, 1] bcast_S32768x1_S32768x512_0_1 : (⟨S32768x1, .f32⟩ : BufTy).Contents (Elt F) → (⟨S32768x512, .f32⟩ : BufTy).Contents (Elt F)),
    binary main_v11 main_v10 main_v12 (subf : (⟨S32768x512, .f32⟩ : BufTy).Contents (Elt F) → (⟨S32768x512, .f32⟩ : BufTy).Contents (Elt F) → (⟨S32768x512, .f32⟩ : BufTy).Contents (Elt F)),
    binary main_arg3 main_arg3 main_v13 (mulf : (⟨S64x512, .f32⟩ : BufTy).Contents (Elt F) → (⟨S64x512, .f32⟩ : BufTy).Contents (Elt F) → (⟨S64x512, .f32⟩ : BufTy).Contents (Elt F)),
    nullary main_cst_1 (constant S_ .f32 0x00000000#32),
    binary main_v13 main_cst_1 main_v14 ((fun x v => Host.reduceAdd x v reducesTo_S64x512_S512_d0 h_S_) : (⟨S64x512, .f32⟩ : BufTy).Contents (Elt F) → (⟨S_, .f32⟩ : BufTy).Contents (Elt F) → (⟨S512, .f32⟩ : BufTy).Contents (Elt F)),
    unary main_v14 main_v15 (broadcastInDim S1x512 ![1] bcast_S512_S1x512_1 : (⟨S512, .f32⟩ : BufTy).Contents (Elt F) → (⟨S1x512, .f32⟩ : BufTy).Contents (Elt F)),
    unary main_v15 main_v16 (broadcastInDim S32768x512 ![0, 1] bcast_S1x512_S32768x512_0_1 : (⟨S1x512, .f32⟩ : BufTy).Contents (Elt F) → (⟨S32768x512, .f32⟩ : BufTy).Contents (Elt F)),
    binary main_v12 main_v16 main_v17 (addf : (⟨S32768x512, .f32⟩ : BufTy).Contents (Elt F) → (⟨S32768x512, .f32⟩ : BufTy).Contents (Elt F) → (⟨S32768x512, .f32⟩ : BufTy).Contents (Elt F)),
    unary main_v17 main_v18 (Host.negf : (⟨S32768x512, .f32⟩ : BufTy).Contents (Elt F) → (⟨S32768x512, .f32⟩ : BufTy).Contents (Elt F)),
    TRef.nullary (TRef.of (T := ⟨S32768x512, .i32⟩) main_call0_v0) (iotaInDim S32768x512 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32768x512, .f32⟩) main_v18) (TRef.of (T := ⟨S32768x512, .i32⟩) main_call0_v0) (TRef.of (T := ⟨S_, .f32⟩) main_call0_cst) (TRef.of (T := ⟨S_, .i32⟩) main_call0_c) (TRef.of (T := ⟨S32768, .f32⟩) main_call0_v1_0) greatest,
    TRef.quaternary (TRef.of (T := ⟨S32768x512, .f32⟩) main_v18) (TRef.of (T := ⟨S32768x512, .i32⟩) main_call0_v0) (TRef.of (T := ⟨S_, .f32⟩) main_call0_cst) (TRef.of (T := ⟨S_, .i32⟩) main_call0_c) (TRef.of (T := ⟨S32768, .i32⟩) main_v19) greatestAt,
    reshape main_v19 main_v20 (rfl : (.i32 : EltTy) = .i32) shapeCasts_S32768_S8x64x64,
    unary main_arg3 main_v21 ((transpose S512x64 [1, 0] · transposes_S64x512_S512x64_1_0) : (⟨S64x512, .f32⟩ : BufTy).Contents (Elt F) → (⟨S512x64, .f32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x64x64, .i32⟩) main_call1_v0) (broadcastInDim S8x64x64 ![] bcast_S_S8x64x64),
    TRef.binary (TRef.of (T := ⟨S8x64x64, .i32⟩) main_v20) (TRef.of (T := ⟨S8x64x64, .i32⟩) main_call1_v0) (TRef.of (T := ⟨S8x64x64, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S8x64x64, .i32⟩) main_call1_v2) (broadcastInDim S8x64x64 ![] bcast_S_S8x64x64),
    TRef.binary (TRef.of (T := ⟨S8x64x64, .i32⟩) main_v20) (TRef.of (T := ⟨S8x64x64, .i32⟩) main_call1_v2) (TRef.of (T := ⟨S8x64x64, .i32⟩) main_call1_v3) addi,
    TRef.ternary (TRef.of (T := ⟨S8x64x64, .i1⟩) main_call1_v1) (TRef.of (T := ⟨S8x64x64, .i32⟩) main_call1_v3) (TRef.of (T := ⟨S8x64x64, .i32⟩) main_v20) (TRef.of (T := ⟨S8x64x64, .i32⟩) main_call1_v4) select,
    TRef.unary (TRef.of (T := ⟨S8x64x64, .i32⟩) main_call1_v4) (TRef.of (T := ⟨S8x64x64x1, .i32⟩) main_call1_v5) (broadcastInDim S8x64x64x1 ![0, 1, 2] bcast_S8x64x64_S8x64x64x1_0_1_2),
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S8x64x64x1, .i32⟩) main_call1_v6) (broadcastInDim S8x64x64x1 ![] bcast_S_S8x64x64x1),
    TRef.binary (TRef.of (T := ⟨S8x64x64x1, .i32⟩) main_call1_v5) (TRef.of (T := ⟨S8x64x64x1, .i32⟩) main_call1_v6) (TRef.of (T := ⟨S8x64x64x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S8x64x64x1, .i32⟩) main_call1_v9) (broadcastInDim S8x64x64x1 ![0, 1, 2, 3] bcast_S1x1x1x1_S8x64x64x1_0_1_2_3),
    TRef.binary (TRef.of (T := ⟨S8x64x64x1, .i32⟩) main_call1_v5) (TRef.of (T := ⟨S8x64x64x1, .i32⟩) main_call1_v9) (TRef.of (T := ⟨S8x64x64x1, .i1⟩) main_call1_v10) (cmpi .sle),
    TRef.binary (TRef.of (T := ⟨S8x64x64x1, .i1⟩) main_call1_v7) (TRef.of (T := ⟨S8x64x64x1, .i1⟩) main_call1_v10) (TRef.of (T := ⟨S8x64x64x1, .i1⟩) main_call1_v11) andi,
    TRef.nullary (TRef.of (T := ⟨S_, .i1⟩) main_call1_c_3) (constantI S_ 1 1#1),
    TRef.binary (TRef.of (T := ⟨S8x64x64x1, .i1⟩) main_call1_v11) (TRef.of (T := ⟨S_, .i1⟩) main_call1_c_3) (TRef.of (T := ⟨S8x64x64, .i1⟩) main_call1_v12) (fun x v => Host.reduce IntOp.andi x v reducesTo_S8x64x64x1_S8x64x64_d3 h_S_),
    TRef.binary (TRef.of (T := ⟨S512x64, .f32⟩) main_v21) (TRef.of (T := ⟨S8x64x64x1, .i32⟩) main_call1_v5) (TRef.of (T := ⟨S8x64x64x64, .f32⟩) main_call1_v13) (fun x i => Host.gather gather_S512x64_S8x64x64x1_S8x64x64x64_3_0_n_n_0_3_164 x i),
    TRef.unary (TRef.of (T := ⟨S8x64x64, .i1⟩) main_call1_v12) (TRef.of (T := ⟨S8x64x64x64, .i1⟩) main_call1_v14) (broadcastInDim S8x64x64x64 ![0, 1, 2] bcast_S8x64x64_S8x64x64x64_0_1_2),
    TRef.nullary (TRef.of (T := ⟨S_, .f32⟩) main_call1_cst) (constant S_ .f32 0x7FC00000#32),
    TRef.unary (TRef.of (T := ⟨S_, .f32⟩) main_call1_cst) (TRef.of (T := ⟨S8x64x64x64, .f32⟩) main_call1_v15) (broadcastInDim S8x64x64x64 ![] bcast_S_S8x64x64x64),
    TRef.ternary (TRef.of (T := ⟨S8x64x64x64, .i1⟩) main_call1_v14) (TRef.of (T := ⟨S8x64x64x64, .f32⟩) main_call1_v13) (TRef.of (T := ⟨S8x64x64x64, .f32⟩) main_call1_v15) (TRef.of (T := ⟨S8x64x64x64, .f32⟩) main_v22) select,
    binary main_v22 main_v3 main_v23 (subf : (⟨S8x64x64x64, .f32⟩ : BufTy).Contents (Elt F) → (⟨S8x64x64x64, .f32⟩ : BufTy).Contents (Elt F) → (⟨S8x64x64x64, .f32⟩ : BufTy).Contents (Elt F)),
    binary main_v23 main_v23 main_v24 (mulf : (⟨S8x64x64x64, .f32⟩ : BufTy).Contents (Elt F) → (⟨S8x64x64x64, .f32⟩ : BufTy).Contents (Elt F) → (⟨S8x64x64x64, .f32⟩ : BufTy).Contents (Elt F)),
    nullary main_cst_2 (constant S_ .f32 0x00000000#32),
    binary main_v24 main_cst_2 main_v25 ((fun x v => Host.reduceAdd x v reducesTo_S8x64x64x64_S_d0_1_2_3 h_S_) : (⟨S8x64x64x64, .f32⟩ : BufTy).Contents (Elt F) → (⟨S_, .f32⟩ : BufTy).Contents (Elt F) → (⟨S_, .f32⟩ : BufTy).Contents (Elt F)),
    nullary main_cst_3 (constant S_ .f32 0x4A000000#32),
    binary main_v25 main_cst_3 main_v26 (Host.divf : (⟨S_, .f32⟩ : BufTy).Contents (Elt F) → (⟨S_, .f32⟩ : BufTy).Contents (Elt F) → (⟨S_, .f32⟩ : BufTy).Contents (Elt F)),
    binary main_v22 main_v3 main_v27 (subf : (⟨S8x64x64x64, .f32⟩ : BufTy).Contents (Elt F) → (⟨S8x64x64x64, .f32⟩ : BufTy).Contents (Elt F) → (⟨S8x64x64x64, .f32⟩ : BufTy).Contents (Elt F)),
    binary main_v3 main_v27 main_v28 (addf : (⟨S8x64x64x64, .f32⟩ : BufTy).Contents (Elt F) → (⟨S8x64x64x64, .f32⟩ : BufTy).Contents (Elt F) → (⟨S8x64x64x64, .f32⟩ : BufTy).Contents (Elt F)),
    unary main_v28 main_v29 ((transpose S8x64x64x64 [0, 3, 1, 2] · transposes_S8x64x64x64_S8x64x64x64_0_3_1_2) : (⟨S8x64x64x64, .f32⟩ : BufTy).Contents (Elt F) → (⟨S8x64x64x64, .f32⟩ : BufTy).Contents (Elt F)) ]

set_option maxRecDepth 8192 in
set_option maxHeartbeats 4000000 in
/-- The program is the list's operations one after another. -/
theorem main_eq (c : Dev nD) : main (F := F) c = seq ops := rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

set_option maxRecDepth 8192 in
/-- Every operation works on the core's own buffers. -/
theorem ops_sub : (ops : List (HloOp τ sig (Elt F))).Forall fun op => op.bufs ⊆ tcRefs τ sig :=
  ⟨binary_bufs_sub .., unary_bufs_sub .., unary_bufs_sub .., binary_bufs_sub .., reshape_bufs_sub .., binary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub .., nullary_bufs_sub .., nullary_bufs_sub .., nullary_bufs_sub .., quaternary_bufs_sub .., quaternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., binary_bufs_sub .., binary_bufs_sub .., unary_bufs_sub ..⟩

/-! ## The list in five parts -/

/-- The operations of the linear map. -/
abbrev opsA : List (HloOp τ sig (Elt F)) :=
  [ binary main_arg0 main_arg1 main_v0 ((fun l r => Host.dotGeneral dot_S8x128x64x64_S64x128_S8x64x64x64_1_1_023_0_n_n none l r) : (⟨S8x128x64x64, .f32⟩ : BufTy).Contents (Elt F) → (⟨S64x128, .f32⟩ : BufTy).Contents (Elt F) → (⟨S8x64x64x64, .f32⟩ : BufTy).Contents (Elt F)),
    unary main_arg2 main_v1 (broadcastInDim S1x1x1x64 ![3] bcast_S64_S1x1x1x64_3 : (⟨S64, .f32⟩ : BufTy).Contents (Elt F) → (⟨S1x1x1x64, .f32⟩ : BufTy).Contents (Elt F)),
    unary main_v1 main_v2 (broadcastInDim S8x64x64x64 ![0, 1, 2, 3] bcast_S1x1x1x64_S8x64x64x64_0_1_2_3 : (⟨S1x1x1x64, .f32⟩ : BufTy).Contents (Elt F) → (⟨S8x64x64x64, .f32⟩ : BufTy).Contents (Elt F)),
    binary main_v0 main_v2 main_v3 (addf : (⟨S8x64x64x64, .f32⟩ : BufTy).Contents (Elt F) → (⟨S8x64x64x64, .f32⟩ : BufTy).Contents (Elt F) → (⟨S8x64x64x64, .f32⟩ : BufTy).Contents (Elt F)) ]

/-- The buffers the linear map writes. -/
abbrev wrA : List (Ref sig .tc) :=
  [main_v0, main_v1, main_v2, main_v3]

/-- A buffer the linear map does not write keeps its contents. -/
theorem keepA {r : Ref sig .tc} (V : Valuation τ sig (Elt F)) (h : r ∉ wrA) :
    after opsA V (Proc.devRef .tc r) = V (Proc.devRef .tc r) :=
  after_of_writes_sub opsA V (forall_writes_sub_of_map (W := wrA) rfl) h

/-- The operations of the distances. -/
abbrev opsB : List (HloOp τ sig (Elt F)) :=
  [ reshape main_v3 main_v4 (rfl : (.f32 : EltTy) = .f32) shapeCasts_S8x64x64x64_S32768x64,
    binary main_v4 main_v4 main_v5 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v5 main_cst main_v6 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v6 main_v7 (broadcastInDim S32768x1 ![0] bcast_S32768_S32768x1_0 : (⟨S32768, .f32⟩ : BufTy).Contents (Elt F) → (⟨S32768x1, .f32⟩ : BufTy).Contents (Elt F)),
    binary main_v4 main_arg3 main_v8 ((fun l r => Host.dotGeneral dot_S32768x64_S64x512_S32768x512_1_0_0_1_n_n none l r) : (⟨S32768x64, .f32⟩ : BufTy).Contents (Elt F) → (⟨S64x512, .f32⟩ : BufTy).Contents (Elt F) → (⟨S32768x512, .f32⟩ : BufTy).Contents (Elt F)),
    nullary main_cst_0 (constant S_ .f32 0x40000000#32),
    unary main_cst_0 main_v9 (broadcastInDim S32768x512 ![] bcast_S_S32768x512 : (⟨S_, .f32⟩ : BufTy).Contents (Elt F) → (⟨S32768x512, .f32⟩ : BufTy).Contents (Elt F)),
    binary main_v9 main_v8 main_v10 (mulf : (⟨S32768x512, .f32⟩ : BufTy).Contents (Elt F) → (⟨S32768x512, .f32⟩ : BufTy).Contents (Elt F) → (⟨S32768x512, .f32⟩ : BufTy).Contents (Elt F)),
    unary main_v7 main_v11 (broadcastInDim S32768x512 ![0, 1] bcast_S32768x1_S32768x512_0_1 : (⟨S32768x1, .f32⟩ : BufTy).Contents (Elt F) → (⟨S32768x512, .f32⟩ : BufTy).Contents (Elt F)),
    binary main_v11 main_v10 main_v12 (subf : (⟨S32768x512, .f32⟩ : BufTy).Contents (Elt F) → (⟨S32768x512, .f32⟩ : BufTy).Contents (Elt F) → (⟨S32768x512, .f32⟩ : BufTy).Contents (Elt F)),
    binary main_arg3 main_arg3 main_v13 (mulf : (⟨S64x512, .f32⟩ : BufTy).Contents (Elt F) → (⟨S64x512, .f32⟩ : BufTy).Contents (Elt F) → (⟨S64x512, .f32⟩ : BufTy).Contents (Elt F)),
    nullary main_cst_1 (constant S_ .f32 0x00000000#32),
    binary main_v13 main_cst_1 main_v14 ((fun x v => Host.reduceAdd x v reducesTo_S64x512_S512_d0 h_S_) : (⟨S64x512, .f32⟩ : BufTy).Contents (Elt F) → (⟨S_, .f32⟩ : BufTy).Contents (Elt F) → (⟨S512, .f32⟩ : BufTy).Contents (Elt F)),
    unary main_v14 main_v15 (broadcastInDim S1x512 ![1] bcast_S512_S1x512_1 : (⟨S512, .f32⟩ : BufTy).Contents (Elt F) → (⟨S1x512, .f32⟩ : BufTy).Contents (Elt F)),
    unary main_v15 main_v16 (broadcastInDim S32768x512 ![0, 1] bcast_S1x512_S32768x512_0_1 : (⟨S1x512, .f32⟩ : BufTy).Contents (Elt F) → (⟨S32768x512, .f32⟩ : BufTy).Contents (Elt F)),
    binary main_v12 main_v16 main_v17 (addf : (⟨S32768x512, .f32⟩ : BufTy).Contents (Elt F) → (⟨S32768x512, .f32⟩ : BufTy).Contents (Elt F) → (⟨S32768x512, .f32⟩ : BufTy).Contents (Elt F)) ]

/-- The buffers the distances writes. -/
abbrev wrB : List (Ref sig .tc) :=
  [main_v4, main_v5, main_cst, main_v6, main_v7, main_v8, main_cst_0, main_v9, main_v10, main_v11, main_v12, main_v13, main_cst_1, main_v14, main_v15, main_v16, main_v17]

/-- A buffer the distances does not write keeps its contents. -/
theorem keepB {r : Ref sig .tc} (V : Valuation τ sig (Elt F)) (h : r ∉ wrB) :
    after opsB V (Proc.devRef .tc r) = V (Proc.devRef .tc r) :=
  after_of_writes_sub opsB V (forall_writes_sub_of_map (W := wrB) rfl) h

/-- The operations of the codes, over any two functions in the reduction's place. -/
abbrev opsCOf (g : Pair S32768 .f32 F) (f : Pair S32768 .i32 F) : List (HloOp τ sig (Elt F)) :=
  [ unary main_v17 main_v18 (Host.negf : (⟨S32768x512, .f32⟩ : BufTy).Contents (Elt F) → (⟨S32768x512, .f32⟩ : BufTy).Contents (Elt F)),
    TRef.nullary (TRef.of (T := ⟨S32768x512, .i32⟩) main_call0_v0) (iotaInDim S32768x512 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32768x512, .f32⟩) main_v18) (TRef.of (T := ⟨S32768x512, .i32⟩) main_call0_v0) (TRef.of (T := ⟨S_, .f32⟩) main_call0_cst) (TRef.of (T := ⟨S_, .i32⟩) main_call0_c) (TRef.of (T := ⟨S32768, .f32⟩) main_call0_v1_0) g,
    TRef.quaternary (TRef.of (T := ⟨S32768x512, .f32⟩) main_v18) (TRef.of (T := ⟨S32768x512, .i32⟩) main_call0_v0) (TRef.of (T := ⟨S_, .f32⟩) main_call0_cst) (TRef.of (T := ⟨S_, .i32⟩) main_call0_c) (TRef.of (T := ⟨S32768, .i32⟩) main_v19) f,
    reshape main_v19 main_v20 (rfl : (.i32 : EltTy) = .i32) shapeCasts_S32768_S8x64x64 ]

/-- The operations of the codes. -/
abbrev opsC : List (HloOp τ sig (Elt F)) := opsCOf greatest greatestAt

/-- The buffers the codes writes. -/
abbrev wrC : List (Ref sig .tc) :=
  [main_v18, main_call0_v0, main_call0_cst, main_call0_c, main_call0_v1_0, main_v19, main_v20]

/-- A buffer the codes does not write keeps its contents. -/
theorem keepC {r : Ref sig .tc} (V : Valuation τ sig (Elt F)) (h : r ∉ wrC) :
    after opsC V (Proc.devRef .tc r) = V (Proc.devRef .tc r) :=
  after_of_writes_sub opsC V (forall_writes_sub_of_map (W := wrC) rfl) h

/-- The operations of the codewords taken. -/
abbrev opsD : List (HloOp τ sig (Elt F)) :=
  [ unary main_arg3 main_v21 ((transpose S512x64 [1, 0] · transposes_S64x512_S512x64_1_0) : (⟨S64x512, .f32⟩ : BufTy).Contents (Elt F) → (⟨S512x64, .f32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x64x64, .i32⟩) main_call1_v0) (broadcastInDim S8x64x64 ![] bcast_S_S8x64x64),
    TRef.binary (TRef.of (T := ⟨S8x64x64, .i32⟩) main_v20) (TRef.of (T := ⟨S8x64x64, .i32⟩) main_call1_v0) (TRef.of (T := ⟨S8x64x64, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S8x64x64, .i32⟩) main_call1_v2) (broadcastInDim S8x64x64 ![] bcast_S_S8x64x64),
    TRef.binary (TRef.of (T := ⟨S8x64x64, .i32⟩) main_v20) (TRef.of (T := ⟨S8x64x64, .i32⟩) main_call1_v2) (TRef.of (T := ⟨S8x64x64, .i32⟩) main_call1_v3) addi,
    TRef.ternary (TRef.of (T := ⟨S8x64x64, .i1⟩) main_call1_v1) (TRef.of (T := ⟨S8x64x64, .i32⟩) main_call1_v3) (TRef.of (T := ⟨S8x64x64, .i32⟩) main_v20) (TRef.of (T := ⟨S8x64x64, .i32⟩) main_call1_v4) select,
    TRef.unary (TRef.of (T := ⟨S8x64x64, .i32⟩) main_call1_v4) (TRef.of (T := ⟨S8x64x64x1, .i32⟩) main_call1_v5) (broadcastInDim S8x64x64x1 ![0, 1, 2] bcast_S8x64x64_S8x64x64x1_0_1_2),
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S8x64x64x1, .i32⟩) main_call1_v6) (broadcastInDim S8x64x64x1 ![] bcast_S_S8x64x64x1),
    TRef.binary (TRef.of (T := ⟨S8x64x64x1, .i32⟩) main_call1_v5) (TRef.of (T := ⟨S8x64x64x1, .i32⟩) main_call1_v6) (TRef.of (T := ⟨S8x64x64x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S8x64x64x1, .i32⟩) main_call1_v9) (broadcastInDim S8x64x64x1 ![0, 1, 2, 3] bcast_S1x1x1x1_S8x64x64x1_0_1_2_3),
    TRef.binary (TRef.of (T := ⟨S8x64x64x1, .i32⟩) main_call1_v5) (TRef.of (T := ⟨S8x64x64x1, .i32⟩) main_call1_v9) (TRef.of (T := ⟨S8x64x64x1, .i1⟩) main_call1_v10) (cmpi .sle),
    TRef.binary (TRef.of (T := ⟨S8x64x64x1, .i1⟩) main_call1_v7) (TRef.of (T := ⟨S8x64x64x1, .i1⟩) main_call1_v10) (TRef.of (T := ⟨S8x64x64x1, .i1⟩) main_call1_v11) andi,
    TRef.nullary (TRef.of (T := ⟨S_, .i1⟩) main_call1_c_3) (constantI S_ 1 1#1),
    TRef.binary (TRef.of (T := ⟨S8x64x64x1, .i1⟩) main_call1_v11) (TRef.of (T := ⟨S_, .i1⟩) main_call1_c_3) (TRef.of (T := ⟨S8x64x64, .i1⟩) main_call1_v12) (fun x v => Host.reduce IntOp.andi x v reducesTo_S8x64x64x1_S8x64x64_d3 h_S_),
    TRef.binary (TRef.of (T := ⟨S512x64, .f32⟩) main_v21) (TRef.of (T := ⟨S8x64x64x1, .i32⟩) main_call1_v5) (TRef.of (T := ⟨S8x64x64x64, .f32⟩) main_call1_v13) (fun x i => Host.gather gather_S512x64_S8x64x64x1_S8x64x64x64_3_0_n_n_0_3_164 x i),
    TRef.unary (TRef.of (T := ⟨S8x64x64, .i1⟩) main_call1_v12) (TRef.of (T := ⟨S8x64x64x64, .i1⟩) main_call1_v14) (broadcastInDim S8x64x64x64 ![0, 1, 2] bcast_S8x64x64_S8x64x64x64_0_1_2),
    TRef.nullary (TRef.of (T := ⟨S_, .f32⟩) main_call1_cst) (constant S_ .f32 0x7FC00000#32),
    TRef.unary (TRef.of (T := ⟨S_, .f32⟩) main_call1_cst) (TRef.of (T := ⟨S8x64x64x64, .f32⟩) main_call1_v15) (broadcastInDim S8x64x64x64 ![] bcast_S_S8x64x64x64),
    TRef.ternary (TRef.of (T := ⟨S8x64x64x64, .i1⟩) main_call1_v14) (TRef.of (T := ⟨S8x64x64x64, .f32⟩) main_call1_v13) (TRef.of (T := ⟨S8x64x64x64, .f32⟩) main_call1_v15) (TRef.of (T := ⟨S8x64x64x64, .f32⟩) main_v22) select ]

/-- The buffers the codewords taken writes. -/
abbrev wrD : List (Ref sig .tc) :=
  [main_v21, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v22]

/-- A buffer the codewords taken does not write keeps its contents. -/
theorem keepD {r : Ref sig .tc} (V : Valuation τ sig (Elt F)) (h : r ∉ wrD) :
    after opsD V (Proc.devRef .tc r) = V (Proc.devRef .tc r) :=
  after_of_writes_sub opsD V (forall_writes_sub_of_map (W := wrD) rfl) h

/-- The operations of the results. -/
abbrev opsE : List (HloOp τ sig (Elt F)) :=
  [ binary main_v22 main_v3 main_v23 (subf : (⟨S8x64x64x64, .f32⟩ : BufTy).Contents (Elt F) → (⟨S8x64x64x64, .f32⟩ : BufTy).Contents (Elt F) → (⟨S8x64x64x64, .f32⟩ : BufTy).Contents (Elt F)),
    binary main_v23 main_v23 main_v24 (mulf : (⟨S8x64x64x64, .f32⟩ : BufTy).Contents (Elt F) → (⟨S8x64x64x64, .f32⟩ : BufTy).Contents (Elt F) → (⟨S8x64x64x64, .f32⟩ : BufTy).Contents (Elt F)),
    nullary main_cst_2 (constant S_ .f32 0x00000000#32),
    binary main_v24 main_cst_2 main_v25 ((fun x v => Host.reduceAdd x v reducesTo_S8x64x64x64_S_d0_1_2_3 h_S_) : (⟨S8x64x64x64, .f32⟩ : BufTy).Contents (Elt F) → (⟨S_, .f32⟩ : BufTy).Contents (Elt F) → (⟨S_, .f32⟩ : BufTy).Contents (Elt F)),
    nullary main_cst_3 (constant S_ .f32 0x4A000000#32),
    binary main_v25 main_cst_3 main_v26 (Host.divf : (⟨S_, .f32⟩ : BufTy).Contents (Elt F) → (⟨S_, .f32⟩ : BufTy).Contents (Elt F) → (⟨S_, .f32⟩ : BufTy).Contents (Elt F)),
    binary main_v22 main_v3 main_v27 (subf : (⟨S8x64x64x64, .f32⟩ : BufTy).Contents (Elt F) → (⟨S8x64x64x64, .f32⟩ : BufTy).Contents (Elt F) → (⟨S8x64x64x64, .f32⟩ : BufTy).Contents (Elt F)),
    binary main_v3 main_v27 main_v28 (addf : (⟨S8x64x64x64, .f32⟩ : BufTy).Contents (Elt F) → (⟨S8x64x64x64, .f32⟩ : BufTy).Contents (Elt F) → (⟨S8x64x64x64, .f32⟩ : BufTy).Contents (Elt F)),
    unary main_v28 main_v29 ((transpose S8x64x64x64 [0, 3, 1, 2] · transposes_S8x64x64x64_S8x64x64x64_0_3_1_2) : (⟨S8x64x64x64, .f32⟩ : BufTy).Contents (Elt F) → (⟨S8x64x64x64, .f32⟩ : BufTy).Contents (Elt F)) ]

/-- The buffers the results writes. -/
abbrev wrE : List (Ref sig .tc) :=
  [main_v23, main_v24, main_cst_2, main_v25, main_cst_3, main_v26, main_v27, main_v28, main_v29]

/-- A buffer the results does not write keeps its contents. -/
theorem keepE {r : Ref sig .tc} (V : Valuation τ sig (Elt F)) (h : r ∉ wrE) :
    after opsE V (Proc.devRef .tc r) = V (Proc.devRef .tc r) :=
  after_of_writes_sub opsE V (forall_writes_sub_of_map (W := wrE) rfl) h

/-- The whole list is the five parts. -/
theorem ops_eq : (ops : List (HloOp τ sig (Elt F))) = opsA ++ (opsB ++ (opsC ++ (opsD ++ opsE))) := rfl

set_option maxHeartbeats 4000000 in
/-- After the first part the linear map's buffer holds `lin` of the arguments. -/
theorem at_lin (V : Valuation τ sig (Elt F)) :
    after opsA V (Proc.devRef .tc main_v3) = lin (V (Proc.devRef .tc main_arg0)) (V (Proc.devRef .tc main_arg1)) (V (Proc.devRef .tc main_arg2)) := by
  simp only [opsA, TRef.binary, TRef.nullary, TRef.ternary, TRef.quaternary, TRef.unary, TRef.toBuf, TRef.ofBuf, cast_eq]
  after_results_simp <;> rfl

set_option maxHeartbeats 4000000 in
/-- After the second the distances' buffer holds `dist` of the rows. -/
theorem at_dist (V : Valuation τ sig (Elt F)) :
    after opsB V (Proc.devRef .tc main_v17) = dist (rows (V (Proc.devRef .tc main_v3))) (V (Proc.devRef .tc main_arg3)) := by
  simp only [opsB, TRef.binary, TRef.nullary, TRef.ternary, TRef.quaternary, TRef.unary, TRef.toBuf, TRef.ofBuf, cast_eq]
  after_results_simp <;> rfl

set_option maxHeartbeats 4000000 in
/-- After the third part, whatever the reduction's two functions, the codes' buffer holds the second of them. -/
theorem at_indOf (g : Pair S32768 .f32 F) (f : Pair S32768 .i32 F) (V : Valuation τ sig (Elt F)) :
    after (opsCOf g f) V (Proc.devRef .tc main_v20)
      = ind (f (Host.negf (V (Proc.devRef .tc main_v17))) (iotaInDim S32768x512 32 1) (constant S_ .f32 0xFF800000#32) (constantI S_ 32 0#32)) := by
  simp only [opsCOf, TRef.binary, TRef.nullary, TRef.ternary, TRef.quaternary, TRef.unary, TRef.toBuf, TRef.ofBuf, cast_eq]
  after_results_simp <;> rfl

/-- After the third the codes' buffer holds `ind` of `code`. -/
theorem at_ind (V : Valuation τ sig (Elt F)) :
    after opsC V (Proc.devRef .tc main_v20) = ind (code (V (Proc.devRef .tc main_v17))) :=
  at_indOf greatest greatestAt V

set_option maxHeartbeats 4000000 in
/-- After the fourth the taken codewords' buffer holds `take` of the table. -/
theorem at_take (V : Valuation τ sig (Elt F)) :
    after opsD V (Proc.devRef .tc main_v22) = take (table (V (Proc.devRef .tc main_arg3))) (V (Proc.devRef .tc main_v20)) := by
  simp only [opsD, TRef.binary, TRef.nullary, TRef.ternary, TRef.quaternary, TRef.unary, TRef.toBuf, TRef.ofBuf, cast_eq]
  after_results_simp <;> rfl

set_option maxHeartbeats 4000000 in
/-- After the fifth the first result. -/
theorem at_quant (V : Valuation τ sig (Elt F)) :
    after opsE V (Proc.devRef .tc main_v29) = quant (V (Proc.devRef .tc main_v3)) (V (Proc.devRef .tc main_v22)) := by
  simp only [opsE, TRef.binary, TRef.nullary, TRef.ternary, TRef.quaternary, TRef.unary, TRef.toBuf, TRef.ofBuf, cast_eq]
  after_results_simp <;> rfl

set_option maxHeartbeats 4000000 in
/-- After the fifth the second result. -/
theorem at_mse (V : Valuation τ sig (Elt F)) :
    after opsE V (Proc.devRef .tc main_v26) = mse (V (Proc.devRef .tc main_v3)) (V (Proc.devRef .tc main_v22)) := by
  simp only [opsE, TRef.binary, TRef.nullary, TRef.ternary, TRef.quaternary, TRef.unary, TRef.toBuf, TRef.ofBuf, cast_eq]
  after_results_simp <;> rfl

/-- The whole list leaves `out0` of the arguments. -/
theorem at_out0 (V : Valuation τ sig (Elt F)) :
    after ops V (Proc.devRef .tc main_v29)
      = out0 (V (Proc.devRef .tc main_arg0)) (V (Proc.devRef .tc main_arg1)) (V (Proc.devRef .tc main_arg2)) (V (Proc.devRef .tc main_arg3)) := by
  rw [ops_eq, StableHlo.after_append, StableHlo.after_append, StableHlo.after_append, StableHlo.after_append]
  rw [at_quant, at_take, at_ind, at_dist, at_lin]
  rw [keepD (r := main_v3) _ (by decide), keepC (r := main_v3) _ (by decide), keepB (r := main_v3) _ (by decide), at_lin,
    keepC (r := main_arg3) _ (by decide), keepB (r := main_arg3) _ (by decide), keepA (r := main_arg3) _ (by decide)]
  rfl

/-- The whole list leaves `out1` of the arguments. -/
theorem at_out1 (V : Valuation τ sig (Elt F)) :
    after ops V (Proc.devRef .tc main_v26)
      = out1 (V (Proc.devRef .tc main_arg0)) (V (Proc.devRef .tc main_arg1)) (V (Proc.devRef .tc main_arg2)) (V (Proc.devRef .tc main_arg3)) := by
  rw [ops_eq, StableHlo.after_append, StableHlo.after_append, StableHlo.after_append, StableHlo.after_append]
  rw [at_mse, at_take, at_ind, at_dist, at_lin]
  rw [keepD (r := main_v3) _ (by decide), keepC (r := main_v3) _ (by decide), keepB (r := main_v3) _ (by decide), at_lin,
    keepC (r := main_arg3) _ (by decide), keepB (r := main_arg3) _ (by decide), keepA (r := main_arg3) _ (by decide)]
  rfl

/-- The whole list leaves `out2` of the arguments. -/
theorem at_out2 (V : Valuation τ sig (Elt F)) :
    after ops V (Proc.devRef .tc main_v20)
      = out2 (V (Proc.devRef .tc main_arg0)) (V (Proc.devRef .tc main_arg1)) (V (Proc.devRef .tc main_arg2)) (V (Proc.devRef .tc main_arg3)) := by
  rw [ops_eq, StableHlo.after_append, StableHlo.after_append, StableHlo.after_append, StableHlo.after_append]
  rw [keepE (r := main_v20) _ (by decide), keepD (r := main_v20) _ (by decide), at_ind, at_dist, at_lin,
    keepA (r := main_arg3) _ (by decide)]
  rfl

/-- A buffer no operation writes keeps its contents. -/
theorem keep {r : Ref sig .tc} (V : Valuation τ sig (Elt F)) (hA : r ∉ wrA) (hB : r ∉ wrB) (hC : r ∉ wrC) (hD : r ∉ wrD)
    (hE : r ∉ wrE) : after ops V (Proc.devRef .tc r) = V (Proc.devRef .tc r) := by
  rw [ops_eq, StableHlo.after_append, StableHlo.after_append, StableHlo.after_append, StableHlo.after_append,
    keepE _ hE, keepD _ hD, keepC _ hC, keepB _ hB, keepA _ hA]

/-- On every device, from any memory with zero counters, every weakly fair execution of the program ends with the
    three results at the stages' composition of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = out0 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v26)
        = out1 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v20)
        = out2 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      (h c main_v29).trans (at_out0 _),
      (h c main_v26).trans (at_out1 _),
      (h c main_v20).trans (at_out2 _),
      (h c main_arg0).trans (keep _ (by decide) (by decide) (by decide) (by decide) (by decide)),
      (h c main_arg1).trans (keep _ (by decide) (by decide) (by decide) (by decide) (by decide)),
      (h c main_arg2).trans (keep _ (by decide) (by decide) (by decide) (by decide) (by decide)),
      (h c main_arg3).trans (keep _ (by decide) (by decide) (by decide) (by decide) (by decide))⟩)
    (run_seq scopedRefs_eq scopedSems_eq defs main (fun _ => ops) main_eq (fun _ => ops_sub) m ρ)

end RefRun

end
-- ==== Proof.RefVal.lean ====
module

public import proofs.«01_k».proof.Proof.RefRun
public import proofs.«01_k».proof.Proof.Model
public import Idealize.ShloMosaic.Lib.Pointwise

/-! # What the reference computes

The reference's stages read at an index, on arguments of real values: the distances, the code of each pixel when
one codeword is the nearest, the codewords taken, and the three results. -/

@[expose] public section

set_option maxRecDepth 16384

noncomputable section

namespace RefVal

open Cert.ReferenceIdeal Cert.ReferenceIdeal.Gen Idealize.ShloMosaic Idealize.ShloMosaic.Pointwise RefRun

/-- The row of a pixel. -/
def row (i : Fin 8) (h l : Fin 64) : Fin 32768 := ⟨i.val * 4096 + h.val * 64 + l.val, by omega⟩

/-! ## The stages at an index -/

/-- The linear map at a pixel and an output channel. -/
theorem lin_at (x : FVec Ideal S8x128x64x64 .f32) (w : FVec Ideal S64x128 .f32) (b : FVec Ideal S64 .f32) (i : Fin 8)
    (h l : Fin 64) (d : Fin 64) :
    RefRun.lin x w b (ix4 i h l d) = ∑ c, x (ix4 i c h l) * w (ix2 d c) + b (ix1 d) := by
  pointwise [RefRun.lin]

/-- A row of the flattened values is a pixel, in row-major order of batch, row and column. -/
theorem rows_at (y : FVec Ideal S8x64x64x64 .f32) (r : Fin 32768) (d : Fin 64) :
    RefRun.rows y (ix2 r d)
      = y (ix4 (⟨r.val / 4096, by omega⟩ : Fin 8) (⟨r.val / 64 % 64, by omega⟩ : Fin 64) (⟨r.val % 64, by omega⟩ : Fin 64) d) := by
  pointwise [RefRun.rows]

/-- A distance in its three-term form. -/
theorem dist_at (f : FVec Ideal S32768x64 .f32) (e : FVec Ideal S64x512 .f32) (r : Fin 32768) (k : Fin 512) :
    RefRun.dist f e (ix2 r k)
      = ∑ d, f (ix2 r d) * f (ix2 r d) - Ideal.ofBits .f32 0x40000000#32 * ∑ d, f (ix2 r d) * e (ix2 d k)
        + ∑ d, e (ix2 d k) * e (ix2 d k) := by
  pointwise [RefRun.dist]

/-- A pixel's index is that of its row. -/
theorem ind_at (k : IVec S32768 32) (i : Fin 8) (h l : Fin 64) : RefRun.ind k (ix3 i h l) = k (ix1 (row i h l)) := by
  pointwise [RefRun.ind]
  rfl

/-- The transposed codebook's entry. -/
theorem table_at (e : FVec Ideal S64x512 .f32) (k : Fin 512) (d : Fin 64) : RefRun.table e (ix2 k d) = e (ix2 d k) := by
  pointwise [RefRun.table]

/-- The straight-through sum, channels moved to the second place. -/
theorem quant_at (y q : FVec Ideal S8x64x64x64 .f32) (i : Fin 8) (d h l : Fin 64) :
    RefRun.quant y q (ix4 i d h l) = y (ix4 i h l d) + (q (ix4 i h l d) - y (ix4 i h l d)) := by
  pointwise [RefRun.quant]

/-- The mean of the squared differences. -/
theorem mse_at (y q : FVec Ideal S8x64x64x64 .f32) :
    RefRun.mse y q ix0 = Ideal.div (∑ i : Fin 8, ∑ h : Fin 64, ∑ l : Fin 64, ∑ d : Fin 64,
      (q (ix4 i h l d) - y (ix4 i h l d)) * (q (ix4 i h l d) - y (ix4 i h l d))) (Ideal.ofBits .f32 0x4A000000#32) := by
  pointwise [RefRun.mse]
  congr 1
  rw [Ideal.hostReduceAdd_total _ (fun b => b.elim0), zero_add, sum_idx4]
  rfl

/-- The row number that the lookup reads, a negative index wrapped around. -/
theorem rowNo_at (k : IVec S8x64x64 32) (i : Fin 8) (h l : Fin 64) (z : Fin 1) :
    RefRun.rowNo k (ix4 i h l z)
      = Scalar.select (IntOp.cmpi .slt (k (ix3 i h l)) 0#32) (IntOp.addi (k (ix3 i h l)) 512#32) (k (ix3 i h l)) := by
  pointwise [RefRun.rowNo]

/-- Whether a row number is in the table. -/
theorem inTable_at (k : IVec S8x64x64x1 32) (i : Fin 8) (h l : Fin 64) :
    RefRun.inTable k (ix3 i h l) = Finset.univ.fold IntOp.andi (1#1) (fun x : Fin 1 =>
        IntOp.andi (IntOp.cmpi CmpIPredicate.sge (k (ix4 i h l x)) 0#32) (IntOp.cmpi CmpIPredicate.sle (k (ix4 i h l x)) 511#32)) := by
  pointwise [RefRun.inTable]

/-- The looked-up entry, where the row number is in the table, and the filler where it is not. -/
theorem take_at (t : FVec Ideal S512x64 .f32) (k : IVec S8x64x64 32) (i : Fin 8) (h l d : Fin 64) :
    RefRun.take t k (ix4 i h l d)
      = Scalar.select (inTable (rowNo k) (ix3 i h l))
        (Host.gather gather_S512x64_S8x64x64x1_S8x64x64x64_3_0_n_n_0_3_164 t (rowNo k) (ix4 i h l d))
        (Ideal.ofBits FTy.f32 0x7FC00000#32) := by
  pointwise [RefRun.take]

/-! ## The gather -/

/-- The gather reads the table at the row its start index names, clamped into the table, and the result's own column. -/
theorem gather_at (t : FVec Ideal S512x64 .f32) (r : IVec S8x64x64x1 32) (i : Fin 8) (h l d : Fin 64) :
    Host.gather gather_S512x64_S8x64x64x1_S8x64x64x64_3_0_n_n_0_3_164 t r (ix4 i h l d)
      = t (ix2 (⟨min (r (ix4 i h l (0 : Fin 1))).toInt.toNat 511, by omega⟩ : Fin 512) d) := by
  unfold Host.gather
  congr 1
  funext a
  refine Fin.ext ?_
  show GatherDims.start _ _ r a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x64_S8x64x64x1_S8x64x64x64_3_0_n_n_0_3_164.startIndexMap from List.mem_singleton.mpr rfl)]
    have hsi : gather_S512x64_S8x64x64x1_S8x64x64x64_3_0_n_n_0_3_164.siIdx (ix4 i h l d)
        ⟨List.idxOf (0 : Fin 2) gather_S512x64_S8x64x64x1_S8x64x64x64_3_0_n_n_0_3_164.startIndexMap,
        List.idxOf_lt_length_iff.2 (List.mem_singleton.mpr rfl)⟩ = ix4 i h l (0 : Fin 1) := by
      funext b; refine Fin.ext ?_
      match b with
      | ⟨0, _⟩ => rfl
      | ⟨1, _⟩ => rfl
      | ⟨2, _⟩ => rfl
      | ⟨3, _⟩ => rfl
    rw [hsi]
    rfl
  · have h1 : (1 : Fin 2) ∉ gather_S512x64_S8x64x64x1_S8x64x64x64_3_0_n_n_0_3_164.startIndexMap := by
      show (1 : Fin 2) ∉ [(0 : Fin 2)]
      decide
    have hk : (1 : Fin 2) ∈ gather_S512x64_S8x64x64x1_S8x64x64x64_3_0_n_n_0_3_164.sKept :=
      (GatherDims.mem_sKept _ _).mpr ⟨h1, List.not_mem_nil⟩
    have hs : gather_S512x64_S8x64x64x1_S8x64x64x64_3_0_n_n_0_3_164.start (ix4 i h l d) r 1 = 0 := by
      unfold GatherDims.start
      rw [dif_neg h1]
    rw [hs]
    unfold GatherDims.offCoord
    rw [dif_pos hk]
    simp only [Nat.zero_add]
    rfl

/-- A code below 512 is its own row number. -/
theorem rowNo_small (k : IVec S8x64x64 32) (i : Fin 8) (h l : Fin 64) (n : Fin 512) (hk : k (ix3 i h l) = BitVec.ofNat 32 n.val)
    (z : Fin 1) : RefRun.rowNo k (ix4 i h l z) = BitVec.ofNat 32 n.val := by
  rw [rowNo_at, hk]
  have : IntOp.cmpi .slt (BitVec.ofNat 32 n.val) 0#32 = 0#1 := by
    clear hk; revert n; decide +kernel
  rw [this]; rfl

/-- The codeword taken at a code below 512 is that codeword. -/
theorem take_small (t : FVec Ideal S512x64 .f32) (k : IVec S8x64x64 32) (i : Fin 8) (h l d : Fin 64) (n : Fin 512)
    (hk : k (ix3 i h l) = BitVec.ofNat 32 n.val) : RefRun.take t k (ix4 i h l d) = t (ix2 n d) := by
  have hin : inTable (rowNo k) (ix3 i h l) = 1#1 := by
    rw [inTable_at, Finset.univ_unique, Finset.fold_singleton, rowNo_small k i h l n hk]
    clear hk; revert n; decide +kernel
  have hn : (⟨min (BitVec.ofNat 32 n.val).toInt.toNat 511, by omega⟩ : Fin 512) = n := by
    clear hk; revert n; decide +kernel
  rw [take_at, hin, gather_at]
  simp only [rowNo_small k i h l n hk]
  rw [hn]; rfl

/-! ## The code -/

/-- The reduction's step on two pairs whose first is the lesser keeps the second. -/
theorem step_lt (a b : Ideal .f32 × BitVec 32) (h : (a.1 : EReal) < b.1) : reducer_argmax_f32_i32 a b = b := by
  have h1 : FloatOps.cmpf .ogt a.1 b.1 = 0#1 := by
    rw [Ideal.cmpf_def]; simp [Ideal.cmp, decide_eq_false (not_lt.mpr h.le)]
  have h2 : FloatOps.cmpf .une a.1 a.1 = 0#1 := by rw [Ideal.cmpf_def]; simp [Ideal.cmp]
  have h3 : FloatOps.cmpf .oeq a.1 b.1 = 0#1 := by rw [Ideal.cmpf_def]; simp [Ideal.cmp, h.ne]
  simp only [reducer_argmax_f32_i32, h1, h2, h3]
  simp [IntOp.ori, IntOp.andi, Scalar.select]

/-- Of two pairs whose second is the lesser it keeps the first. -/
theorem step_gt (a b : Ideal .f32 × BitVec 32) (h : (b.1 : EReal) < a.1) : reducer_argmax_f32_i32 a b = a := by
  have h1 : FloatOps.cmpf .ogt a.1 b.1 = 1#1 := by
    rw [Ideal.cmpf_def]; simp [Ideal.cmp, h]
  have h2 : FloatOps.cmpf .une a.1 a.1 = 0#1 := by rw [Ideal.cmpf_def]; simp [Ideal.cmp]
  have h3 : FloatOps.cmpf .oeq a.1 b.1 = 0#1 := by rw [Ideal.cmpf_def]; simp [Ideal.cmp, h.ne']
  simp only [reducer_argmax_f32_i32, h1, h2, h3]
  simp [IntOp.ori, IntOp.andi, Scalar.select]

/-- Of a pair and itself it keeps the pair. -/
theorem step_self (a : Ideal .f32 × BitVec 32) : reducer_argmax_f32_i32 a a = a := by
  simp [reducer_argmax_f32_i32, Scalar.select]

/-- The greater of two values is one of them. -/
theorem step_fst (a b : Ideal .f32 × BitVec 32) :
    (reducer_argmax_f32_i32 a b).1 = a.1 ∨ (reducer_argmax_f32_i32 a b).1 = b.1 := by
  simp only [reducer_argmax_f32_i32, Scalar.select]
  split
  · exact Or.inl rfl
  · exact Or.inr rfl

/-- An argument-and-index reduction whose step is the greater's ends, at a result index whose sources hold one greatest
    pair and otherwise lesser values, at that pair. -/
theorem argReduce_best {s t u : Shape} {axes : List (Fin s.rank)} (x : FVec Ideal s .f32) (y : IVec s 32)
    (v : FVec Ideal u .f32) (c : IVec u 32) (h : s.ReducesTo axes t) (hu : 0 < u.numel) (j : t.Idx)
    (best : Ideal .f32 × BitVec 32) (hlt : ∀ i, h.drop i = j → (x i : EReal) < best.1 ∨ (x i, y i) = best)
    (hv : (v (Shape.Idx.first hu) : EReal) < best.1) (i : s.Idx) (hi : h.drop i = j) (hb : (x i, y i) = best) :
    Host.argReduce reducer_argmax_f32_i32 x y v c h hu j = best := by
  rw [Ideal.argReduce_eq_reduce2, Host.reduce2_eq_foldl_fiber]
  refine Model.foldl_best _ _ (fun a => (a.1 : EReal) < best.1) ?_ ?_ ?_ (step_self _) _ _ ?_ (Or.inl ⟨hv, ?_⟩)
  · intro a b ha hb
    rcases step_fst a b with h | h
    · rw [h]; exact ha
    · rw [h]; exact hb
  · intro a ha; exact step_lt a _ ha
  · intro a ha; exact step_gt _ a ha
  · intro p hp
    obtain ⟨q, hq, rfl⟩ := List.mem_map.mp hp
    exact hlt _ (of_decide_eq_true (List.mem_filter.mp hq).2)
  · refine List.mem_map.mpr ⟨s.rowMajor i, List.mem_filter.mpr ⟨List.mem_finRange _, ?_⟩, ?_⟩
    · rw [Equiv.symm_apply_apply]; exact decide_eq_true hi
    · rw [Equiv.symm_apply_apply]; exact hb

/-- The sources of a row's reduction are the row's entries. -/
theorem drop_row (i : S32768x512.Idx) (r : Fin 32768) (hi : reducesTo_S32768x512_S32768_d1.drop i = ix1 r) :
    ∃ k : Fin 512, i = ix2 r k := by
  have h0 : ((reducesTo_S32768x512_S32768_d1.drop i) 0).val = (i 0).val :=
    Shape.ReducesTo.drop_apply_val_of_eq _ i 0 0
  rw [hi] at h0
  have h0' : (i 0) = r := Fin.ext h0.symm
  refine ⟨i 1, ?_⟩
  rw [eq_ix2 i, h0']
  rfl

/-- Every entry of a row is a source of the row's reduction. -/
theorem drop_entry (r : Fin 32768) (k : Fin 512) : reducesTo_S32768x512_S32768_d1.drop (ix2 r k) = ix1 r := by
  funext b
  match b with
  | ⟨0, _⟩ => exact Fin.ext (Shape.ReducesTo.drop_apply_val_of_eq _ (ix2 r k) 0 0)

/-- The negated distances at an index. -/
theorem neg_at (d : FVec Ideal S32768x512 .f32) (r : Fin 32768) (k : Fin 512) : Host.negf d (ix2 r k) = -d (ix2 r k) := by
  pointwise

/-- The table of column numbers at an index. -/
theorem iota_at (r : Fin 32768) (k : Fin 512) : iotaInDim S32768x512 32 1 (ix2 r k) = BitVec.ofNat 32 k.val := rfl

/-- The reduction's first value is below every real. -/
theorem init_at (i : S_.Idx) : (constant (F := Ideal) S_ .f32 0xFF800000#32 i : EReal) = ⊥ := by
  show Ideal.ofBits .f32 0xFF800000#32 = ⊥
  simp [Ideal.ofBits, Ideal.ieee]

/-- The index of the greatest value of each row is the second component of the reduction. -/
theorem greatestAt_eq : greatestAt (F := Ideal) = fun x y u v j =>
    (Host.argReduce reducer_argmax_f32_i32 x y u v reducesTo_S32768x512_S32768_d1 h_S_ j).2 := by
  delta greatestAt; exact rfl

/-- The index of a row's greatest value, of the pair the reduction ends at. -/
theorem greatestAt_of (x : FVec Ideal S32768x512 .f32) (y : IVec S32768x512 32) (u : FVec Ideal S_ .f32) (v : IVec S_ 32) (j : S32768.Idx)
    (b : Ideal .f32 × BitVec 32) (h : Host.argReduce reducer_argmax_f32_i32 x y u v reducesTo_S32768x512_S32768_d1 h_S_ j = b) :
    greatestAt (F := Ideal) x y u v j = b.2 := by
  rw [greatestAt_eq]; exact congrArg Prod.snd h

/-- The code of a row whose distances are real and have one least is the index of that one. -/
theorem code_at (d : FVec Ideal S32768x512 .f32) (r : Fin 32768) (D : Fin 512 → ℝ) (n : Fin 512)
    (hd : ∀ k, d (ix2 r k) = ((D k : ℝ) : EReal)) (hn : Model.Nearest D n) :
    code d (ix1 r) = BitVec.ofNat 32 n.val := by
  have hneg : ∀ k, Host.negf d (ix2 r k) = ((-D k : ℝ) : EReal) := fun k => by rw [neg_at, hd, EReal.coe_neg]
  rw [code]
  refine greatestAt_of _ _ _ _ _ _ (argReduce_best (Host.negf d) (iotaInDim S32768x512 32 1) (constant S_ .f32 0xFF800000#32)
    (constantI S_ 32 0#32) reducesTo_S32768x512_S32768_d1 h_S_ (ix1 r)
    ((((-D n : ℝ) : EReal) : Ideal .f32), BitVec.ofNat 32 n.val) ?_ ?_ (ix2 r n) (drop_entry r n) ?_)
  · intro i hi
    obtain ⟨k, rfl⟩ := drop_row i r hi
    rw [hneg, iota_at]
    by_cases hkn : k = n
    · exact Or.inr (by rw [hkn])
    · exact Or.inl (EReal.coe_lt_coe_iff.mpr (neg_lt_neg (hn k hkn)))
  · rw [init_at]; exact EReal.bot_lt_coe _
  · rw [hneg, iota_at]

end RefVal

end
-- ==== Proof.RefReal.lean ====
module

public import proofs.«01_k».proof.Proof.RefVal
public import proofs.«01_k».proof.Proof.Args

/-! # The reference's results on real data

On arguments that hold real data for which every pixel has one nearest codeword, the reference's three results. -/

@[expose] public section

set_option maxRecDepth 16384

noncomputable section

namespace RefReal

open Cert.ReferenceIdeal Idealize.ShloMosaic Idealize.ShloMosaic.Pointwise RefRun RefVal

variable {x : FVec Ideal S8x128x64x64 .f32} {w : FVec Ideal S64x128 .f32} {b : FVec Ideal S64 .f32} {e : FVec Ideal S64x512 .f32}
  {g : Model.Data}

/-- The linear map's value. -/
theorem lin (H : Args.Holds x w b e g) (i : Fin 8) (h l d : Fin 64) :
    RefRun.lin x w b (ix4 i h l d) = ((g.y i h l d : ℝ) : EReal) := by
  rw [lin_at]
  simp only [H.x, H.w, H.b]
  rw [Model.coe_sum_mul, ← EReal.coe_add]
  unfold Model.Data.y Model.lin
  simp only [mul_comm]

/-- A pixel's row holds its value of the linear map. -/
theorem rows (H : Args.Holds x w b e g) (i : Fin 8) (h l d : Fin 64) :
    RefRun.rows (RefRun.lin x w b) (ix2 (row i h l) d) = ((g.y i h l d : ℝ) : EReal) := by
  rw [rows_at]
  have hi : (⟨(row i h l).val / 4096, by omega⟩ : Fin 8) = i := Fin.ext (by simp only [row]; omega)
  have hh : (⟨(row i h l).val / 64 % 64, by omega⟩ : Fin 64) = h := Fin.ext (by simp only [row]; omega)
  have hl : (⟨(row i h l).val % 64, by omega⟩ : Fin 64) = l := Fin.ext (by simp only [row]; omega)
  rw [hi, hh, hl, lin H]

/-- A pixel's row of distances holds its squared distances. -/
theorem dist (H : Args.Holds x w b e g) (i : Fin 8) (h l : Fin 64) (k : Fin 512) :
    RefRun.dist (RefRun.rows (RefRun.lin x w b)) e (ix2 (row i h l) k) = ((g.dist i h l k : ℝ) : EReal) := by
  rw [dist_at]
  simp only [rows H, H.e, Args.two]
  rw [Model.coe_sum_mul, Model.coe_sum_mul, Model.coe_sum_mul, ← EReal.coe_mul, ← EReal.coe_sub, ← EReal.coe_add,
    Model.sqDist_three]
  rfl

/-- The third result at a pixel with one nearest codeword is that codeword's index. -/
theorem out2 (H : Args.Holds x w b e g) (i : Fin 8) (h l : Fin 64) (n : Fin 512) (hn : Model.Nearest (g.dist i h l) n) :
    RefRun.out2 x w b e (ix3 i h l) = BitVec.ofNat 32 n.val := by
  unfold RefRun.out2
  rw [ind_at]
  exact code_at _ _ _ _ (dist H i h l) hn

/-- The codeword taken at a pixel is its nearest. -/
theorem taken (H : Args.Holds x w b e g) (i : Fin 8) (h l d : Fin 64) (n : Fin 512) (hn : Model.Nearest (g.dist i h l) n) :
    RefRun.take (RefRun.table e) (RefRun.out2 x w b e) (ix4 i h l d) = ((g.e d n : ℝ) : EReal) := by
  rw [take_small _ _ i h l d n (out2 H i h l n hn), table_at, H.e]

/-- The first result is the pixels' nearest codewords: what is added to and taken from the linear map's value cancels. -/
theorem out0 (H : Args.Holds x w b e g) (n : Fin 8 → Fin 64 → Fin 64 → Fin 512)
    (hn : ∀ i h l, Model.Nearest (g.dist i h l) (n i h l)) (i : Fin 8) (d h l : Fin 64) :
    RefRun.out0 x w b e (ix4 i d h l) = Args.quantized g n i d h l := by
  unfold RefRun.out0
  rw [quant_at, lin H, taken H i h l d _ (hn i h l), ← EReal.coe_sub, ← EReal.coe_add]
  unfold Args.quantized
  congr 1; ring

/-- The second result is the mean of the pixels' least squared distances. -/
theorem out1 (H : Args.Holds x w b e g) (n : Fin 8 → Fin 64 → Fin 64 → Fin 512)
    (hn : ∀ i h l, Model.Nearest (g.dist i h l) (n i h l)) :
    RefRun.out1 x w b e ix0 = Args.meanSq g n := by
  unfold RefRun.out1
  rw [mse_at]
  unfold Args.meanSq
  refine congrArg (fun s => Ideal.div s Args.count) ?_
  rw [← Model.coe_sum]
  refine Finset.sum_congr rfl fun i _ => ?_
  rw [← Model.coe_sum]
  refine Finset.sum_congr rfl fun h _ => ?_
  rw [← Model.coe_sum]
  refine Finset.sum_congr rfl fun l _ => ?_
  have hd : ∀ d, RefRun.take (RefRun.table e) (RefRun.out2 x w b e) (ix4 i h l d) - RefRun.lin x w b (ix4 i h l d)
      = ((g.e d (n i h l) - g.y i h l d : ℝ) : EReal) := fun d => by
    rw [lin H, taken H i h l d _ (hn i h l), ← EReal.coe_sub]
  simp only [hd]
  rw [Model.coe_sum_mul]
  rfl

end RefReal

end
-- ==== Proof.PreFacts.lean ====
module

public import proofs.«01_k».proof.Proof.RefReal
public import proofs.«01_k».proof.Proof.Gen.Pre_finite_untied
public import Idealize.ShloMosaic.Lib.IndicatorCount

/-! # What the precondition says

When the precondition's arrays are all ones, the arguments hold real data and every pixel has one nearest
codeword. -/

@[expose] public section

set_option maxRecDepth 16384

noncomputable section

namespace PreFacts

open Cert.Pre_finite_untied Idealize.ShloMosaic Idealize.ShloMosaic.Pointwise

/-- A value whose magnitude is below infinity is real. -/
theorem real_of_abs_lt (a : EReal) (h : BitVec.ofBool (decide ((FloatOps.absf (F := Ideal) (φ := .f32) a : EReal) < Ideal.ofBits .f32 0x7F800000#32)) = 1#1) :
    a = ((a.toReal : ℝ) : EReal) := by
  have hd : decide ((FloatOps.absf (F := Ideal) (φ := .f32) a : EReal) < Ideal.ofBits .f32 0x7F800000#32) = true := by
    cases hb : decide ((FloatOps.absf (F := Ideal) (φ := .f32) a : EReal) < Ideal.ofBits .f32 0x7F800000#32)
    · rw [hb] at h; exact absurd h (by decide)
    · rfl
  have h1 := of_decide_eq_true hd
  rw [Args.infinity, Ideal.absf_def] at h1
  have ht : a ≠ ⊤ := fun e => by rw [e] at h1; exact absurd (lt_of_le_of_lt (le_max_left _ _) h1) (lt_irrefl _)
  have hb : a ≠ ⊥ := fun e => by
    rw [e] at h1
    exact absurd (lt_of_le_of_lt (le_max_right _ _) h1) (by rw [EReal.neg_bot]; exact lt_irrefl _)
  exact (EReal.coe_toReal ht hb).symm

/-- When the count of the values that equal the least is one, one value is less than every other. -/
theorem nearest_of_count (D : Fin 512 → ℝ)
    (h : IntOp.cmpi .eq (Finset.univ.fold IntOp.addi 0#32 fun k : Fin 512 => BitVec.setWidth 32 (BitVec.ofBool (decide
      (((D k : ℝ) : EReal) = Finset.univ.fold min (⊤ : EReal) fun k => ((D k : ℝ) : EReal))))) 1#32 = 1#1) :
    ∃ n, Model.Nearest D n := by
  obtain ⟨n, hn⟩ := Model.exists_le D
  refine ⟨n, fun k hk => ?_⟩
  rw [Model.fold_min D n hn, IndicatorCount.fold_addi_setWidth_eq_card] at h
  by_contra hlt
  have hkn : D k = D n := le_antisymm (not_lt.mp hlt) (hn k)
  have hsub : ({k, n} : Finset (Fin 512)) ⊆ Finset.univ.filter fun k : Fin 512 =>
      BitVec.ofBool (decide (((D k : ℝ) : EReal) = ((D n : ℝ) : EReal))) = 1#1 := by
    intro a ha
    rcases Finset.mem_insert.mp ha with rfl | ha
    · exact Finset.mem_filter.mpr ⟨Finset.mem_univ _, by simp [hkn]⟩
    · rw [Finset.mem_singleton.mp ha]
      exact Finset.mem_filter.mpr ⟨Finset.mem_univ _, by simp⟩
  have h2 := Finset.card_le_card hsub
  rw [Finset.card_pair hk] at h2
  have h512 : (Finset.univ.filter fun k : Fin 512 => BitVec.ofBool (decide (((D k : ℝ) : EReal) = ((D n : ℝ) : EReal))) = 1#1).card ≤ 512 :=
    (Finset.card_filter_le _ _).trans (by simp)
  revert h h2 h512
  generalize (Finset.univ.filter fun k : Fin 512 => BitVec.ofBool (decide (((D k : ℝ) : EReal) = ((D n : ℝ) : EReal))) = 1#1).card = m
  intro h h2 h512
  have heq : BitVec.ofNat 32 m = 1#32 := by
    by_contra hne
    have : IntOp.cmpi .eq (BitVec.ofNat 32 m) 1#32 = 0#1 := by
      show BitVec.ofBool (BitVec.ofNat 32 m == 1#32) = 0#1
      rw [beq_false_of_ne hne]; rfl
    rw [this] at h
    exact absurd h (by decide)
  have := congrArg BitVec.toNat heq
  simp only [BitVec.toNat_ofNat] at this
  omega

/-! ## The precondition's arrays at an index -/

section
variable (x : FVec Ideal S8x128x64x64 .f32) (w : FVec Ideal S64x128 .f32) (b : FVec Ideal S64 .f32) (e : FVec Ideal S64x512 .f32)

/-- The first component at an index compares the magnitude of an image entry with infinity. -/
theorem fin_x (i : Fin 8) (c : Fin 128) (h l : Fin 64) : (fn (F := Ideal) x w b e).1 (ix4 i c h l)
    = BitVec.ofBool (decide ((FloatOps.absf (F := Ideal) (φ := .f32) (x (ix4 i c h l)) : EReal) < Ideal.ofBits .f32 0x7F800000#32)) := by
  pointwise [fn, fn_part1]

/-- The second does so with a weight. -/
theorem fin_w (d : Fin 64) (c : Fin 128) : (fn (F := Ideal) x w b e).2.1 (ix2 d c)
    = BitVec.ofBool (decide ((FloatOps.absf (F := Ideal) (φ := .f32) (w (ix2 d c)) : EReal) < Ideal.ofBits .f32 0x7F800000#32)) := by
  pointwise [fn, fn_part1]

/-- The third does so with a shift. -/
theorem fin_b (d : Fin 64) : (fn (F := Ideal) x w b e).2.2.1 (ix1 d)
    = BitVec.ofBool (decide ((FloatOps.absf (F := Ideal) (φ := .f32) (b (ix1 d)) : EReal) < Ideal.ofBits .f32 0x7F800000#32)) := by
  pointwise [fn, fn_part1]

/-- The fourth does so with a codebook entry. -/
theorem fin_e (d : Fin 64) (k : Fin 512) : (fn (F := Ideal) x w b e).2.2.2.1 (ix2 d k)
    = BitVec.ofBool (decide ((FloatOps.absf (F := Ideal) (φ := .f32) (e (ix2 d k)) : EReal) < Ideal.ofBits .f32 0x7F800000#32)) := by
  pointwise [fn, fn_part1]

/-- The fifth at a pixel compares with one the number of codewords at the least distance. -/
theorem untied (r : Fin 32768) : (fn (F := Ideal) x w b e).2.2.2.2 (ix1 r)
    = IntOp.cmpi .eq (Finset.univ.fold IntOp.addi 0#32 fun k : Fin 512 => BitVec.setWidth 32 (BitVec.ofBool (decide
      ((RefRun.dist (RefRun.rows (RefRun.lin x w b)) e (ix2 r k) : EReal)
        = Finset.univ.fold min (Ideal.ofBits .f32 0x7F800000#32) fun k => RefRun.dist (RefRun.rows (RefRun.lin x w b)) e (ix2 r k))))) 1#32 := by
  pointwise [fn, fn_part1, RefRun.dist, RefRun.rows, RefRun.lin]

end

/-- All ones give real data with one nearest codeword at every pixel. -/
theorem holds (x : FVec Ideal S8x128x64x64 .f32) (w : FVec Ideal S64x128 .f32) (b : FVec Ideal S64 .f32) (e : FVec Ideal S64x512 .f32)
    (hx : (fn (F := Ideal) x w b e).1 = fun _ => 1#1) (hw : (fn (F := Ideal) x w b e).2.1 = fun _ => 1#1)
    (hb : (fn (F := Ideal) x w b e).2.2.1 = fun _ => 1#1) (he : (fn (F := Ideal) x w b e).2.2.2.1 = fun _ => 1#1)
    (hu : (fn (F := Ideal) x w b e).2.2.2.2 = fun _ => 1#1) :
    ∃ (g : Model.Data) (n : Fin 8 → Fin 64 → Fin 64 → Fin 512), Args.Holds x w b e g ∧ ∀ i h l, Model.Nearest (g.dist i h l) (n i h l) := by
  let g : Model.Data :=
    ⟨fun i c h l => (x (ix4 i c h l)).toReal, fun d c => (w (ix2 d c)).toReal, fun d => (b (ix1 d)).toReal, fun d k => (e (ix2 d k)).toReal⟩
  have H : Args.Holds x w b e g := {
    x := fun i c h l => real_of_abs_lt _ ((fin_x x w b e i c h l).symm.trans (congrFun hx _))
    w := fun d c => real_of_abs_lt _ ((fin_w x w b e d c).symm.trans (congrFun hw _))
    b := fun d => real_of_abs_lt _ ((fin_b x w b e d).symm.trans (congrFun hb _))
    e := fun d k => real_of_abs_lt _ ((fin_e x w b e d k).symm.trans (congrFun he _)) }
  have hn : ∀ i h l, ∃ n, Model.Nearest (g.dist i h l) n := by
    intro i h l
    have := (untied x w b e (RefVal.row i h l)).symm.trans (congrFun hu _)
    simp only [RefReal.dist H, Args.infinity] at this
    exact nearest_of_count _ this
  choose n hn using hn
  exact ⟨g, n, H, hn⟩

end PreFacts

end
-- ==== Proof.Equation.lean ====
module

public import proofs.«01_k».proof.Proof.Results
public import proofs.«01_k».proof.Proof.RefReal
public import proofs.«01_k».proof.Proof.PreFacts

/-! # The kernel's results are the reference's

On finite arguments with one nearest codeword at every pixel, the kernel's run ends with the reference's three
result functions of its own arguments. -/

@[expose] public section

set_option maxRecDepth 16384

noncomputable section

namespace Equation

open Cert.KernelIdeal Cert.KernelIdeal.Gen Idealize.ShloMosaic Idealize.ShloMosaic.Pointwise Idealize.ShloMosaic.TcCoe
open Idealize.SL.Sem Inputs

variable (m : (l : Loc nD τ sig) → Buf (Elt Ideal) l) (ρ : Dev nD → PrngReg)

/-- The image as launched on a device. -/
abbrev arg0 (c : Dev nD) : Vec Ideal S8x128x64x64 .f32 := m ((c.tc : Thread nD τ).loc main_arg0)
/-- The weights as launched. -/
abbrev arg1 (c : Dev nD) : Vec Ideal S64x128 .f32 := m ((c.tc : Thread nD τ).loc main_arg1)
/-- The shift as launched. -/
abbrev arg2 (c : Dev nD) : Vec Ideal S64 .f32 := m ((c.tc : Thread nD τ).loc main_arg2)
/-- The codebook as launched. -/
abbrev arg3 (c : Dev nD) : Vec Ideal S64x512 .f32 := m ((c.tc : Thread nD τ).loc main_arg3)

/-- A device's arguments hold real data with one nearest codeword at every pixel. -/
def Untied (c : Dev nD) : Prop :=
  ∃ (g : Model.Data) (n : Fin 8 → Fin 64 → Fin 64 → Fin 512), ArgsHold m c g ∧ ∀ i h l, Model.Nearest (g.dist i h l) (n i h l)

/-- The first output array ends as the reference's first result. -/
theorem codes_eq (c : Dev nD) (hu : Untied m c) :
    (dats m 0 c).arrAt 5 cfg0.N = RefRun.out0 (F := Ideal) (arg0 m c) (arg1 m c) (arg2 m c) (arg3 m c) := by
  obtain ⟨g, n, H, hn⟩ := hu
  rw [Arrays.final5 m c H hn]
  refine funext fun (j : S8x64x64x64.Idx) => ?_
  obtain ⟨i, d, h, l, rfl⟩ : ∃ i d h l, j = ix4 i d h l := ⟨j 0, j 1, j 2, j 3, eq_ix4 j⟩
  exact (RefReal.out0 H n hn i d h l).symm

/-- The mean ends as the reference's second. -/
theorem mean_eq (c : Dev nD) (hu : Untied m c) :
    Results.mean ((dats m 0 c).arrAt 7 cfg0.N) = RefRun.out1 (F := Ideal) (arg0 m c) (arg1 m c) (arg2 m c) (arg3 m c) := by
  obtain ⟨g, n, H, hn⟩ := hu
  rw [Arrays.final7 m c H hn]
  refine funext fun (j : S_.Idx) => ?_
  obtain rfl : j = ix0 := funext fun a => a.elim0
  exact (Results.mean_total g n).trans (RefReal.out1 H n hn).symm

/-- The split indices end as the reference's third. -/
theorem indices_eq (c : Dev nD) (hu : Untied m c) :
    Results.split ((dats m 0 c).arrAt 6 cfg0.N) = RefRun.out2 (F := Ideal) (arg0 m c) (arg1 m c) (arg2 m c) (arg3 m c) := by
  obtain ⟨g, n, H, hn⟩ := hu
  rw [Arrays.final6 m c H hn]
  refine funext fun (j : S8x64x64.Idx) => ?_
  obtain ⟨i, h, l, rfl⟩ : ∃ i h l, j = ix3 i h l := ⟨j 0, j 1, j 2, eq_ix3 j⟩
  exact (Results.split_indices n i h l).trans (RefReal.out2 H i h l (n i h l) (hn i h l)).symm

/-- The kernel's run ends with the reference's three results and unchanged arguments. -/
theorem run (hu : ∀ c, Untied m c) :
    θ_run defs (onTc (τ := τ) (main (F := Ideal))) ⟨m, fun _ => 0, ρ⟩ fun r => ∀ c : Dev nD,
      r.2.mem ((c.tc : Thread nD τ).loc main_v9_0) = RefRun.out0 (F := Ideal) (arg0 m c) (arg1 m c) (arg2 m c) (arg3 m c)
      ∧ r.2.mem ((c.tc : Thread nD τ).loc main_v12) = RefRun.out1 (F := Ideal) (arg0 m c) (arg1 m c) (arg2 m c) (arg3 m c)
      ∧ r.2.mem ((c.tc : Thread nD τ).loc main_v10) = RefRun.out2 (F := Ideal) (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1 c).1 5).trans (codes_eq m c (hu c)),
      (((h.1 c).2 main_v12 (by decide)).trans (Results.end_v12 m c)).trans (mean_eq m c (hu c)),
      (((h.1 c).2 main_v10 (by decide)).trans (Results.end_v10 m c)).trans (indices_eq m c (hu c)),
      h.2 c⟩)
    (θ_run_and (run_main m ρ) (unchanged m ρ))

end Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_untied
public import proofs.«01_k».proof.Proof.Equation
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The reference terminates, leaves its arguments unchanged and every semaphore counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩) (RefRun.run m ρ)

/-- The precondition gives real data with one nearest codeword at every pixel, on every device. -/
theorem untied (m : (l : Loc Cert.KernelIdeal.nD Cert.KernelIdeal.τ Cert.KernelIdeal.sig) → Buf (Elt Ideal) l)
    (h : Cert.Pre_KernelIdeal_finite_untied (hPre_finite_untied := Cert.Pre_finite_untied.Gen.facts) m)
    (c : Dev Cert.KernelIdeal.nD) : Equation.Untied m c :=
  PreFacts.holds _ _ _ _ (h c).1 (h c).2.1 (h c).2.2.1 (h c).2.2.2.1 (h c).2.2.2.2

/-- On finite arguments with one nearest codeword at every pixel, kernel and reference end with equal results. -/
theorem values : Cert.algebraic_KernelIdeal_ReferenceIdeal_pre_finite_untied (hKernelIdeal := Cert.KernelIdeal.Gen.facts)
    (hReferenceIdeal := Cert.ReferenceIdeal.Gen.facts) (hPre_finite_untied := Cert.Pre_finite_untied.Gen.facts) := by
  intro m ρ m' ρ' hpre hagree
  refine ⟨_, _, _, Equation.run m ρ (untied m hpre), ?_⟩
  refine (θ_run Cert.ReferenceIdeal.defs _ _).mono (fun r h c => ?_) (RefRun.run m' ρ')
  obtain ⟨e0, e1, e2, e3⟩ := hagree c
  have hc := h c
  rw [e0, e1, e2, e3] at hc
  obtain ⟨r0, r1, r2, k0, k1, k2, k3⟩ := hc
  exact ⟨r0, r1, r2, k0.trans e0.symm, k1.trans e1.symm, k2.trans e2.symm, k3.trans e3.symm⟩

/-- Everything claimed. -/
theorem claim : Cert.Claim := ⟨Cert.Kernel.Gen.facts, Cert.KernelIdeal.Gen.facts, Cert.ReferenceIdeal.Gen.facts, Cert.Pre_finite_untied.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, values⟩

end Cert.Proof

end
